-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S3x256x4096 : Shape := ⟨3, ![3, 256, 4096]⟩
abbrev S16x128 : Shape := ⟨2, ![16, 128]⟩
abbrev S3 : Shape := ⟨1, ![3]⟩
abbrev S16 : Shape := ⟨1, ![16]⟩
abbrev S_ : Shape := ⟨0, ![]⟩
abbrev S256x256 : Shape := ⟨2, ![256, 256]⟩
abbrev S256x4096 : Shape := ⟨2, ![256, 4096]⟩
abbrev S1x256x4096 : Shape := ⟨3, ![1, 256, 4096]⟩
abbrev S1 : Shape := ⟨1, ![1]⟩
abbrev S1x256x8192 : Shape := ⟨3, ![1, 256, 8192]⟩
abbrev S1x1x1 : Shape := ⟨3, ![1, 1, 1]⟩
abbrev S1x128 : Shape := ⟨2, ![1, 128]⟩
abbrev S1x16x128 : Shape := ⟨3, ![1, 16, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S256x8192, .f32⟩
  | .local _ .vmem, ⟨3, _⟩ => ⟨S3x256x4096, .f32⟩
  | .local _ .vmem, ⟨4, _⟩ => ⟨S3x256x4096, .f32⟩
  | .local _ .vmem, ⟨5, _⟩ => ⟨S16x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_10 : BitVec 32 := 1#32
  let v13 : BitVec 32 := Scalar.subi v2 c1_i32_10
  let v14 : BitVec 32 := Scalar.subi v13 c0_i32_11
  let c32_i32 : BitVec 32 := 32#32
  let v15 : BitVec 32 := Scalar.addi v14 c32_i32
  let c16_i32_12 : BitVec 32 := 16#32
  let v16 : BitVec 32 := Scalar.remsi v15 c16_i32_12
  let c256_i32 : BitVec 32 := 256#32
  let v17 : BitVec 32 := Scalar.muli v16 c256_i32
  let v18 : Index := Scalar.indexCast v17
  let c0 : Index := 0#32
  ![v18.toNat, 0]
def k0_off2 (d0 : Dev nD) (c0_i32_19 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.addi v2 c1_i32_18
  let v28 : BitVec 32 := Scalar.addi v27 c0_i32_19
  let c16_i32_20 : BitVec 32 := 16#32
  let v29 : BitVec 32 := Scalar.remsi v28 c16_i32_20
  let c256_i32_21 : BitVec 32 := 256#32
  let v30 : BitVec 32 := Scalar.muli v29 c256_i32_21
  let v31 : Index := Scalar.indexCast v30
  let c0_22 : Index := 0#32
  ![v31.toNat, 0]
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_32 : BitVec 32 := 1#32
  let v40 : BitVec 32 := Scalar.muli v7 c1_i32_32
  let v41 : BitVec 32 := Scalar.addi c0_i32_33 v40
  v41.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_42 : BitVec 32 := 1#32
  let v50 : BitVec 32 := Scalar.muli v5 c1_i32_42
  let v51 : BitVec 32 := Scalar.addi c0_i32_43 v50
  v51.toNat
def k0_dev5 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_118 : BitVec 32 := 1#32
  let v121 : BitVec 32 := Scalar.muli v7 c1_i32_118
  let v122 : BitVec 32 := Scalar.addi c0_i32_119 v121
  v122.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_128 : BitVec 32 := 1#32
  let v131 : BitVec 32 := Scalar.muli v5 c1_i32_128
  let v132 : BitVec 32 := Scalar.addi c0_i32_129 v131
  v132.toNat
def k0_dev7 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_204 : BitVec 32 := 1#32
  let v202 : BitVec 32 := Scalar.muli v7 c1_i32_204
  let v203 : BitVec 32 := Scalar.addi c0_i32_205 v202
  v203.toNat
def k0_dev8 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_214 : BitVec 32 := 1#32
  let v212 : BitVec 32 := Scalar.muli v5 c1_i32_214
  let v213 : BitVec 32 := Scalar.addi c0_i32_215 v212
  v213.toNat
def k0_dev9 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_290 : BitVec 32 := 1#32
  let v283 : BitVec 32 := Scalar.muli v7 c1_i32_290
  let v284 : BitVec 32 := Scalar.addi c0_i32_291 v283
  v284.toNat
def k0_dev10 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_300 : BitVec 32 := 1#32
  let v293 : BitVec 32 := Scalar.muli v5 c1_i32_300
  let v294 : BitVec 32 := Scalar.addi c0_i32_301 v293
  v294.toNat
def k0_dev11 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_376 : BitVec 32 := 1#32
  let v364 : BitVec 32 := Scalar.muli v7 c1_i32_376
  let v365 : BitVec 32 := Scalar.addi c0_i32_377 v364
  v365.toNat
def k0_dev12 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_386 : BitVec 32 := 1#32
  let v374 : BitVec 32 := Scalar.muli v5 c1_i32_386
  let v375 : BitVec 32 := Scalar.addi c0_i32_387 v374
  v375.toNat
def k0_dev13 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_462 : BitVec 32 := 1#32
  let v445 : BitVec 32 := Scalar.muli v7 c1_i32_462
  let v446 : BitVec 32 := Scalar.addi c0_i32_463 v445
  v446.toNat
def k0_dev14 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_472 : BitVec 32 := 1#32
  let v455 : BitVec 32 := Scalar.muli v5 c1_i32_472
  let v456 : BitVec 32 := Scalar.addi c0_i32_473 v455
  v456.toNat
def k0_dev15 (d0 : Dev nD) : Nat :=
  let c0_i32_549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_548 : BitVec 32 := 1#32
  let v526 : BitVec 32 := Scalar.muli v7 c1_i32_548
  let v527 : BitVec 32 := Scalar.addi c0_i32_549 v526
  v527.toNat
def k0_dev16 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_558 : BitVec 32 := 1#32
  let v536 : BitVec 32 := Scalar.muli v5 c1_i32_558
  let v537 : BitVec 32 := Scalar.addi c0_i32_559 v536
  v537.toNat
def k0_dev17 (d0 : Dev nD) : Nat :=
  let c0_i32_635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_634 : BitVec 32 := 1#32
  let v607 : BitVec 32 := Scalar.muli v7 c1_i32_634
  let v608 : BitVec 32 := Scalar.addi c0_i32_635 v607
  v608.toNat
def k0_dev18 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_644 : BitVec 32 := 1#32
  let v617 : BitVec 32 := Scalar.muli v5 c1_i32_644
  let v618 : BitVec 32 := Scalar.addi c0_i32_645 v617
  v618.toNat
def k0_dev19 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_720 : BitVec 32 := 1#32
  let v688 : BitVec 32 := Scalar.muli v7 c1_i32_720
  let v689 : BitVec 32 := Scalar.addi c0_i32_721 v688
  v689.toNat
def k0_dev20 (d0 : Dev nD) : Nat :=
  let c0_i32_731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_730 : BitVec 32 := 1#32
  let v698 : BitVec 32 := Scalar.muli v5 c1_i32_730
  let v699 : BitVec 32 := Scalar.addi c0_i32_731 v698
  v699.toNat
def k0_dev21 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_806 : BitVec 32 := 1#32
  let v769 : BitVec 32 := Scalar.muli v7 c1_i32_806
  let v770 : BitVec 32 := Scalar.addi c0_i32_807 v769
  v770.toNat
def k0_dev22 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_816 : BitVec 32 := 1#32
  let v779 : BitVec 32 := Scalar.muli v5 c1_i32_816
  let v780 : BitVec 32 := Scalar.addi c0_i32_817 v779
  v780.toNat
def k0_dev23 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_892 : BitVec 32 := 1#32
  let v850 : BitVec 32 := Scalar.muli v7 c1_i32_892
  let v851 : BitVec 32 := Scalar.addi c0_i32_893 v850
  v851.toNat
def k0_dev24 (d0 : Dev nD) : Nat :=
  let c0_i32_903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_902 : BitVec 32 := 1#32
  let v860 : BitVec 32 := Scalar.muli v5 c1_i32_902
  let v861 : BitVec 32 := Scalar.addi c0_i32_903 v860
  v861.toNat
def k0_dev25 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_978 : BitVec 32 := 1#32
  let v931 : BitVec 32 := Scalar.muli v7 c1_i32_978
  let v932 : BitVec 32 := Scalar.addi c0_i32_979 v931
  v932.toNat
def k0_dev26 (d0 : Dev nD) : Nat :=
  let c0_i32_989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_988 : BitVec 32 := 1#32
  let v941 : BitVec 32 := Scalar.muli v5 c1_i32_988
  let v942 : BitVec 32 := Scalar.addi c0_i32_989 v941
  v942.toNat
def k0_dev27 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1064 : BitVec 32 := 1#32
  let v1012 : BitVec 32 := Scalar.muli v7 c1_i32_1064
  let v1013 : BitVec 32 := Scalar.addi c0_i32_1065 v1012
  v1013.toNat
def k0_dev28 (d0 : Dev nD) : Nat :=
  let c0_i32_1075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1074 : BitVec 32 := 1#32
  let v1022 : BitVec 32 := Scalar.muli v5 c1_i32_1074
  let v1023 : BitVec 32 := Scalar.addi c0_i32_1075 v1022
  v1023.toNat
def k0_dev29 (d0 : Dev nD) : Nat :=
  let c0_i32_1151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1150 : BitVec 32 := 1#32
  let v1093 : BitVec 32 := Scalar.muli v7 c1_i32_1150
  let v1094 : BitVec 32 := Scalar.addi c0_i32_1151 v1093
  v1094.toNat
def k0_dev30 (d0 : Dev nD) : Nat :=
  let c0_i32_1161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1160 : BitVec 32 := 1#32
  let v1103 : BitVec 32 := Scalar.muli v5 c1_i32_1160
  let v1104 : BitVec 32 := Scalar.addi c0_i32_1161 v1103
  v1104.toNat
def k0_dev31 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1236 : BitVec 32 := 1#32
  let v1174 : BitVec 32 := Scalar.muli v7 c1_i32_1236
  let v1175 : BitVec 32 := Scalar.addi c0_i32_1237 v1174
  v1175.toNat
def k0_dev32 (d0 : Dev nD) : Nat :=
  let c0_i32_1247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1246 : BitVec 32 := 1#32
  let v1184 : BitVec 32 := Scalar.muli v5 c1_i32_1246
  let v1185 : BitVec 32 := Scalar.addi c0_i32_1247 v1184
  v1185.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1259 : Index := Scalar.indexCast v2
  let c0_1319 : Index := 0#32
  ![v1259.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1326 : BitVec 32 := 0#32
  ![v2.toNat, 0]
def k0_dev33 (d0 : Dev nD) : Nat :=
  let c0_i32_1325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1320 : BitVec 32 := 1#32
  let v1263 : BitVec 32 := Scalar.addi v2 c1_i32_1320
  let c16_i32_1321 : BitVec 32 := 16#32
  let v1264 : BitVec 32 := Scalar.remsi v1263 c16_i32_1321
  let c1_i32_1324 : BitVec 32 := 1#32
  let v1265 : BitVec 32 := Scalar.muli v1264 c1_i32_1324
  let v1266 : BitVec 32 := Scalar.addi c0_i32_1325 v1265
  v1266.toNat
def k0_dev34 (d0 : Dev nD) : Nat :=
  let c0_i32_1333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1328 : BitVec 32 := 2#32
  let v1273 : BitVec 32 := Scalar.addi v2 c2_i32_1328
  let c16_i32_1329 : BitVec 32 := 16#32
  let v1274 : BitVec 32 := Scalar.remsi v1273 c16_i32_1329
  let c1_i32_1332 : BitVec 32 := 1#32
  let v1275 : BitVec 32 := Scalar.muli v1274 c1_i32_1332
  let v1276 : BitVec 32 := Scalar.addi c0_i32_1333 v1275
  v1276.toNat
def k0_dev35 (d0 : Dev nD) : Nat :=
  let c0_i32_1341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1336 : BitVec 32 := 3#32
  let v1283 : BitVec 32 := Scalar.addi v2 c3_i32_1336
  let c16_i32_1337 : BitVec 32 := 16#32
  let v1284 : BitVec 32 := Scalar.remsi v1283 c16_i32_1337
  let c1_i32_1340 : BitVec 32 := 1#32
  let v1285 : BitVec 32 := Scalar.muli v1284 c1_i32_1340
  let v1286 : BitVec 32 := Scalar.addi c0_i32_1341 v1285
  v1286.toNat
def k0_dev36 (d0 : Dev nD) : Nat :=
  let c0_i32_1349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1344 : BitVec 32 := 4#32
  let v1293 : BitVec 32 := Scalar.addi v2 c4_i32_1344
  let c16_i32_1345 : BitVec 32 := 16#32
  let v1294 : BitVec 32 := Scalar.remsi v1293 c16_i32_1345
  let c1_i32_1348 : BitVec 32 := 1#32
  let v1295 : BitVec 32 := Scalar.muli v1294 c1_i32_1348
  let v1296 : BitVec 32 := Scalar.addi c0_i32_1349 v1295
  v1296.toNat
def k0_dev37 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1352 : BitVec 32 := 5#32
  let v1303 : BitVec 32 := Scalar.addi v2 c5_i32_1352
  let c16_i32_1353 : BitVec 32 := 16#32
  let v1304 : BitVec 32 := Scalar.remsi v1303 c16_i32_1353
  let c1_i32_1356 : BitVec 32 := 1#32
  let v1305 : BitVec 32 := Scalar.muli v1304 c1_i32_1356
  let v1306 : BitVec 32 := Scalar.addi c0_i32_1357 v1305
  v1306.toNat
def k0_dev38 (d0 : Dev nD) : Nat :=
  let c0_i32_1365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1360 : BitVec 32 := 6#32
  let v1313 : BitVec 32 := Scalar.addi v2 c6_i32_1360
  let c16_i32_1361 : BitVec 32 := 16#32
  let v1314 : BitVec 32 := Scalar.remsi v1313 c16_i32_1361
  let c1_i32_1364 : BitVec 32 := 1#32
  let v1315 : BitVec 32 := Scalar.muli v1314 c1_i32_1364
  let v1316 : BitVec 32 := Scalar.addi c0_i32_1365 v1315
  v1316.toNat
def k0_dev39 (d0 : Dev nD) : Nat :=
  let c0_i32_1373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1368 : BitVec 32 := 7#32
  let v1323 : BitVec 32 := Scalar.addi v2 c7_i32_1368
  let c16_i32_1369 : BitVec 32 := 16#32
  let v1324 : BitVec 32 := Scalar.remsi v1323 c16_i32_1369
  let c1_i32_1372 : BitVec 32 := 1#32
  let v1325 : BitVec 32 := Scalar.muli v1324 c1_i32_1372
  let v1326 : BitVec 32 := Scalar.addi c0_i32_1373 v1325
  v1326.toNat
def k0_dev40 (d0 : Dev nD) : Nat :=
  let c0_i32_1381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1376 : BitVec 32 := 8#32
  let v1333 : BitVec 32 := Scalar.addi v2 c8_i32_1376
  let c16_i32_1377 : BitVec 32 := 16#32
  let v1334 : BitVec 32 := Scalar.remsi v1333 c16_i32_1377
  let c1_i32_1380 : BitVec 32 := 1#32
  let v1335 : BitVec 32 := Scalar.muli v1334 c1_i32_1380
  let v1336 : BitVec 32 := Scalar.addi c0_i32_1381 v1335
  v1336.toNat
def k0_dev41 (d0 : Dev nD) : Nat :=
  let c0_i32_1389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1384 : BitVec 32 := 9#32
  let v1343 : BitVec 32 := Scalar.addi v2 c9_i32_1384
  let c16_i32_1385 : BitVec 32 := 16#32
  let v1344 : BitVec 32 := Scalar.remsi v1343 c16_i32_1385
  let c1_i32_1388 : BitVec 32 := 1#32
  let v1345 : BitVec 32 := Scalar.muli v1344 c1_i32_1388
  let v1346 : BitVec 32 := Scalar.addi c0_i32_1389 v1345
  v1346.toNat
def k0_dev42 (d0 : Dev nD) : Nat :=
  let c0_i32_1397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1392 : BitVec 32 := 10#32
  let v1353 : BitVec 32 := Scalar.addi v2 c10_i32_1392
  let c16_i32_1393 : BitVec 32 := 16#32
  let v1354 : BitVec 32 := Scalar.remsi v1353 c16_i32_1393
  let c1_i32_1396 : BitVec 32 := 1#32
  let v1355 : BitVec 32 := Scalar.muli v1354 c1_i32_1396
  let v1356 : BitVec 32 := Scalar.addi c0_i32_1397 v1355
  v1356.toNat
def k0_dev43 (d0 : Dev nD) : Nat :=
  let c0_i32_1405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1400 : BitVec 32 := 11#32
  let v1363 : BitVec 32 := Scalar.addi v2 c11_i32_1400
  let c16_i32_1401 : BitVec 32 := 16#32
  let v1364 : BitVec 32 := Scalar.remsi v1363 c16_i32_1401
  let c1_i32_1404 : BitVec 32 := 1#32
  let v1365 : BitVec 32 := Scalar.muli v1364 c1_i32_1404
  let v1366 : BitVec 32 := Scalar.addi c0_i32_1405 v1365
  v1366.toNat
def k0_dev44 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1408 : BitVec 32 := 12#32
  let v1373 : BitVec 32 := Scalar.addi v2 c12_i32_1408
  let c16_i32_1409 : BitVec 32 := 16#32
  let v1374 : BitVec 32 := Scalar.remsi v1373 c16_i32_1409
  let c1_i32_1412 : BitVec 32 := 1#32
  let v1375 : BitVec 32 := Scalar.muli v1374 c1_i32_1412
  let v1376 : BitVec 32 := Scalar.addi c0_i32_1413 v1375
  v1376.toNat
def k0_dev45 (d0 : Dev nD) : Nat :=
  let c0_i32_1421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1416 : BitVec 32 := 13#32
  let v1383 : BitVec 32 := Scalar.addi v2 c13_i32_1416
  let c16_i32_1417 : BitVec 32 := 16#32
  let v1384 : BitVec 32 := Scalar.remsi v1383 c16_i32_1417
  let c1_i32_1420 : BitVec 32 := 1#32
  let v1385 : BitVec 32 := Scalar.muli v1384 c1_i32_1420
  let v1386 : BitVec 32 := Scalar.addi c0_i32_1421 v1385
  v1386.toNat
def k0_dev46 (d0 : Dev nD) : Nat :=
  let c0_i32_1429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1424 : BitVec 32 := 14#32
  let v1393 : BitVec 32 := Scalar.addi v2 c14_i32_1424
  let c16_i32_1425 : BitVec 32 := 16#32
  let v1394 : BitVec 32 := Scalar.remsi v1393 c16_i32_1425
  let c1_i32_1428 : BitVec 32 := 1#32
  let v1395 : BitVec 32 := Scalar.muli v1394 c1_i32_1428
  let v1396 : BitVec 32 := Scalar.addi c0_i32_1429 v1395
  v1396.toNat
def k0_dev47 (d0 : Dev nD) : Nat :=
  let c0_i32_1437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1432 : BitVec 32 := 15#32
  let v1403 : BitVec 32 := Scalar.addi v2 c15_i32_1432
  let c16_i32_1433 : BitVec 32 := 16#32
  let v1404 : BitVec 32 := Scalar.remsi v1403 c16_i32_1433
  let c1_i32_1436 : BitVec 32 := 1#32
  let v1405 : BitVec 32 := Scalar.muli v1404 c1_i32_1436
  let v1406 : BitVec 32 := Scalar.addi c0_i32_1437 v1405
  v1406.toNat
def k0_off5 (d0 : Dev nD) (c1_i32_1440 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1413 : BitVec 32 := Scalar.subi v2 c1_i32_1440
  let c32_i32_1441 : BitVec 32 := 32#32
  let v1414 : BitVec 32 := Scalar.addi v1413 c32_i32_1441
  let c16_i32_1442 : BitVec 32 := 16#32
  let v1415 : BitVec 32 := Scalar.remsi v1414 c16_i32_1442
  let c0_i32_1447 : BitVec 32 := 0#32
  ![v1415.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Program.lean ====
/-
# 01_k — the kernel body step by step

The printed body is one straight line of effects. Here it is written once more as a prologue, fourteen ring steps of one
text, the last ring step, and the exchange of the block maxima; `body_eq` says the printed body is that program.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Kit
public import Idealize.ShloMosaic.Lib.Tactic

@[expose] public section

noncomputable section

namespace Cert.Ring

open Cert.KernelIdeal Cert.KernelIdeal.Gen

open Idealize.ShloMosaic
open Idealize.ShloMosaic.TcCoe
open Idealize.SL.Sem

variable {F : FTy → Type} [FloatOps F]

/-! ## Memrefs and semaphores -/

abbrev xM : Memref sig .tc .vmem S4096x256 .f32 := Memref.whole cc0_stg0_0
abbrev wM : Memref sig .tc .vmem S256x8192 .f32 := Memref.whole cc0_stg1_0
abbrev oM : Memref sig .tc .vmem S256x8192 .f32 := Memref.whole cc0_stg2_0
abbrev aM : Memref sig .tc .vmem S16x128 .f32 := Memref.whole cc0_scratch2

/-- The two directions of travel: sums moving to the right neighbour, sums moving to the left one. -/
inductive Dir | cw | ccw
  deriving DecidableEq

/-- The three-slot buffer of a direction. -/
abbrev bufM : Dir → Memref sig .tc .vmem S3x256x4096 .f32
  | .cw => Memref.whole cc0_scratch0
  | .ccw => Memref.whole cc0_scratch1

abbrev sendA : Dir → DmaSems sig S3
  | .cw => cc0_scratch3
  | .ccw => cc0_scratch5
abbrev recvA : Dir → DmaSems sig S3
  | .cw => cc0_scratch4
  | .ccw => cc0_scratch6

theorem slot_inb (j : Fin 3) : ∀ a, (![j.val, 0, 0] : Fin 3 → Nat) a + S1x256x4096.size a ≤ S3x256x4096.size a := by
  revert j; decide
theorem sem3_inb (j : Fin 3) : ∀ a, (![j.val] : Fin 1 → Nat) a + S1.size a ≤ S3.size a := by
  revert j; decide
theorem sem16_inb (j : Fin 16) : ∀ a, (![j.val] : Fin 1 → Nat) a + S1.size a ≤ S16.size a := by
  revert j; decide

/-- Slot `j` of a three-slot buffer, as a rectangle. -/
abbrev slotR (j : Fin 3) : Rect S3x256x4096 := Rect.unit (s := S3x256x4096) ![j.val, 0, 0] S1x256x4096.size (slot_inb j)
/-- Slot `j` of a direction's buffer. -/
abbrev slotM (D : Dir) (j : Fin 3) : Memref sig .tc .vmem S256x4096 .f32 :=
  ((bufM D).slice (slotR j) (fun _ => rfl)).squeeze S256x4096 squeezes_S1x256x4096_S256x4096

/-- Semaphore `j` of a three-semaphore array. -/
abbrev sem3 (A : DmaSems sig S3) (j : Fin 3) : DmaSem sig :=
  ((A.slice (Rect.unit (s := S3) ![j.val] S1.size (sem3_inb j))).squeeze S_ squeezes_S1_S_).sem
/-- Semaphore `j` of a sixteen-semaphore array. -/
abbrev sem16 (A : DmaSems sig S16) (j : Fin 16) : DmaSem sig :=
  ((A.slice (Rect.unit (s := S16) ![j.val] S1.size (sem16_inb j))).squeeze S_ squeezes_S1_S_).sem

abbrev barS : Sem sig := (SemArray.scalar (sig.barrier 0 rfl) : Sems sig S_).sem

/-- The slot a step sends from, and the one it lands in. -/
abbrev sl (s : ℕ) : Fin 3 := ⟨s % 3, Nat.mod_lt _ (by decide)⟩

/-- The rows of `x` multiplied for the right-going sum `r`, and for the left-going one. -/
abbrev xOff : Dir → Dev nD → BitVec 32 → Fin 2 → Nat
  | .cw => k0_off1
  | .ccw => k0_off2
theorem xOff_inb (D : Dir) (c : Dev nD) (r : Fin 16) :
    ∀ a, (xOff D c (BitVec.ofNat 32 r.val)) a + S256x256.size a ≤ S4096x256.size a := by
  cases D
  · exact k0_off1_inb c r
  · exact k0_off2_inb c r
abbrev xR (D : Dir) (c : Dev nD) (r : Fin 16) : Rect S4096x256 :=
  Rect.unit (s := S4096x256) (xOff D c (BitVec.ofNat 32 r.val)) S256x256.size (xOff_inb D c r)

/-- The half of the columns a direction works on. -/
abbrev half : Dir → Rect S256x8192
  | .cw => Rect.unit (s := S256x8192) ![0, 0] S256x4096.size inb_S256x8192_S256x4096_0_0
  | .ccw => Rect.unit (s := S256x8192) ![0, 4096] S256x4096.size inb_S256x8192_S256x4096_0_4096
theorem half_size (D : Dir) : (half D).shape = S256x4096 := by cases D <;> rfl

abbrev allR : Rect S256x8192 := Rect.unit (s := S256x8192) ![0, 0] S256x8192.size inb_S256x8192_S256x8192_0_0
abbrev amaxAllR : Rect S16x128 := Rect.unit (s := S16x128) ![0, 0] S16x128.size inb_S16x128_S16x128_0_0

/-! ## The devices the copies address, as the program prints them -/

def devR (c : Dev nD) : ℕ → Dev nD
  | 0 => ⟨k0_dev3 c, k0_dev3_lt c⟩
  | 1 => ⟨k0_dev5 c, k0_dev5_lt c⟩
  | 2 => ⟨k0_dev7 c, k0_dev7_lt c⟩
  | 3 => ⟨k0_dev9 c, k0_dev9_lt c⟩
  | 4 => ⟨k0_dev11 c, k0_dev11_lt c⟩
  | 5 => ⟨k0_dev13 c, k0_dev13_lt c⟩
  | 6 => ⟨k0_dev15 c, k0_dev15_lt c⟩
  | 7 => ⟨k0_dev17 c, k0_dev17_lt c⟩
  | 8 => ⟨k0_dev19 c, k0_dev19_lt c⟩
  | 9 => ⟨k0_dev21 c, k0_dev21_lt c⟩
  | 10 => ⟨k0_dev23 c, k0_dev23_lt c⟩
  | 11 => ⟨k0_dev25 c, k0_dev25_lt c⟩
  | 12 => ⟨k0_dev27 c, k0_dev27_lt c⟩
  | 13 => ⟨k0_dev29 c, k0_dev29_lt c⟩
  | _ => ⟨k0_dev31 c, k0_dev31_lt c⟩
def devL (c : Dev nD) : ℕ → Dev nD
  | 0 => ⟨k0_dev4 c, k0_dev4_lt c⟩
  | 1 => ⟨k0_dev6 c, k0_dev6_lt c⟩
  | 2 => ⟨k0_dev8 c, k0_dev8_lt c⟩
  | 3 => ⟨k0_dev10 c, k0_dev10_lt c⟩
  | 4 => ⟨k0_dev12 c, k0_dev12_lt c⟩
  | 5 => ⟨k0_dev14 c, k0_dev14_lt c⟩
  | 6 => ⟨k0_dev16 c, k0_dev16_lt c⟩
  | 7 => ⟨k0_dev18 c, k0_dev18_lt c⟩
  | 8 => ⟨k0_dev20 c, k0_dev20_lt c⟩
  | 9 => ⟨k0_dev22 c, k0_dev22_lt c⟩
  | 10 => ⟨k0_dev24 c, k0_dev24_lt c⟩
  | 11 => ⟨k0_dev26 c, k0_dev26_lt c⟩
  | 12 => ⟨k0_dev28 c, k0_dev28_lt c⟩
  | 13 => ⟨k0_dev30 c, k0_dev30_lt c⟩
  | _ => ⟨k0_dev32 c, k0_dev32_lt c⟩
/-- The device the `d`-th copy of the maximum goes to, counted from 0. -/
def devA (c : Dev nD) : ℕ → Dev nD
  | 0 => ⟨k0_dev33 c, k0_dev33_lt c⟩
  | 1 => ⟨k0_dev34 c, k0_dev34_lt c⟩
  | 2 => ⟨k0_dev35 c, k0_dev35_lt c⟩
  | 3 => ⟨k0_dev36 c, k0_dev36_lt c⟩
  | 4 => ⟨k0_dev37 c, k0_dev37_lt c⟩
  | 5 => ⟨k0_dev38 c, k0_dev38_lt c⟩
  | 6 => ⟨k0_dev39 c, k0_dev39_lt c⟩
  | 7 => ⟨k0_dev40 c, k0_dev40_lt c⟩
  | 8 => ⟨k0_dev41 c, k0_dev41_lt c⟩
  | 9 => ⟨k0_dev42 c, k0_dev42_lt c⟩
  | 10 => ⟨k0_dev43 c, k0_dev43_lt c⟩
  | 11 => ⟨k0_dev44 c, k0_dev44_lt c⟩
  | 12 => ⟨k0_dev45 c, k0_dev45_lt c⟩
  | 13 => ⟨k0_dev46 c, k0_dev46_lt c⟩
  | _ => ⟨k0_dev47 c, k0_dev47_lt c⟩

abbrev dev (c : Dev nD) : Dir → ℕ → Dev nD
  | .cw => devR c
  | .ccw => devL c

/-! ## The pieces of the body -/

abbrev P (F : FTy → Type) [FloatOps F] (α : Type) : Type 1 := Prog (TpuEff nD τ sig (Elt F) Λ₀ .tc) α

def enq (D : Dir) (n : Dev nD) (j k : Fin 3) : P F PUnit :=
  Prog.lift (.enqueueDma (slotM D j) (.remote (Dev.tc n) (slotM D k) (.dma (sem3 (sendA D) j))) (.dma (sem3 (recvA D) k))
    ((View.wordExact_bits rfl).reshape _ _) ((View.wordExact_bits rfl).reshape _ _) ⟨⟨rfl, Or.inl rfl⟩, trivial⟩)
def waitOn (q : DmaSem sig) (D : Dir) (j k : Fin 3) : P F PUnit :=
  Prog.lift (.waitDma2 q (slotM D j) (slotM D k) ((View.wordExact_bits rfl).reshape _ _) ((View.wordExact_bits rfl).reshape _ _))

def loadX (D : Dir) (c : Dev nD) (r : Fin 16) : P F (Vec F S256x256 .f32) :=
  Prog.lift (.load xM (xR D c r).toLoadRect (View.loadsAt_vmem h_S256x256))
def loadW : Dir → P F (Vec F S256x4096 .f32)
  | .cw => Prog.lift (.load wM (half .cw).toLoadRect (View.loadsAt_vmem h_S256x4096))
  | .ccw => Prog.lift (.load wM (half .ccw).toLoadRect (View.loadsAt_vmem h_S256x4096))
def loadO : Dir → P F (Vec F S256x4096 .f32)
  | .cw => Prog.lift (.load oM (half .cw).toLoadRect (View.loadsAt_vmem h_S256x4096))
  | .ccw => Prog.lift (.load oM (half .ccw).toLoadRect (View.loadsAt_vmem h_S256x4096))
def storeO : Dir → FVec F S256x4096 .f32 → P F PUnit
  | .cw, v => Prog.lift (.store oM (half .cw) v Finset.univ (View.stores_vmem_bits_univ h_S256x4096 rfl) (.inl rfl))
  | .ccw, v => Prog.lift (.store oM (half .ccw) v Finset.univ (View.stores_vmem_bits_univ h_S256x4096 rfl) (.inl rfl))
def loadS (D : Dir) (j : Fin 3) : P F (Vec F S1x256x4096 .f32) :=
  Prog.lift (.load (bufM D) (slotR j).toLoadRect (View.loadsAt_vmem h_S1x256x4096))
def storeS (D : Dir) (j : Fin 3) (v : FVec F S1x256x4096 .f32) : P F PUnit :=
  Prog.lift (.store (bufM D) (slotR j) v Finset.univ (View.stores_vmem_bits_univ h_S1x256x4096 rfl) (.inl rfl))

/-- The first product of a direction, stored in slot 0. -/
def first (D : Dir) (c : Dev nD) : P F PUnit := do
  let a ← loadX D c 0
  let b ← loadW D
  let _ ← loadS D 0
  storeS D 0 (k0_pay1 a b)

/-- The product of a direction that step `r` adds. -/
def partial_ (D : Dir) (c : Dev nD) (r : Fin 16) : P F (FVec F S256x4096 .f32) := do
  let a ← loadX D c r
  let b ← loadW D
  pure (k0_pay3 a b)

/-- The addition of a product to the sum landed in slot `j`. -/
def accum (D : Dir) (j : Fin 3) (p : FVec F S256x4096 .f32) : P F PUnit := do
  let v ← loadS D j
  let _ ← loadS D j
  storeS D j (k0_pay5 p v)

/-- Step `s` of the ring but the last. -/
def step (c : Dev nD) (s : ℕ) : P F PUnit := do
  enq .cw (devR c s) (sl s) (sl (s + 1))
  enq .ccw (devL c s) (sl s) (sl (s + 1))
  let p ← partial_ .cw c ⟨(s + 1) % 16, Nat.mod_lt _ (by decide)⟩
  let q ← partial_ .ccw c ⟨(s + 1) % 16, Nat.mod_lt _ (by decide)⟩
  waitOn (sem3 (recvA .cw) (sl (s + 1))) .cw (sl s) (sl (s + 1))
  waitOn (sem3 (recvA .ccw) (sl (s + 1))) .ccw (sl s) (sl (s + 1))
  accum .cw (sl (s + 1)) p
  accum .ccw (sl (s + 1)) q
  waitOn (sem3 (sendA .cw) (sl s)) .cw (sl (s + 1)) (sl s)
  waitOn (sem3 (sendA .ccw) (sl s)) .ccw (sl (s + 1)) (sl s)

/-- The last addition of a direction, stored in the result's half. -/
def finish (D : Dir) (j : Fin 3) (p : FVec F S256x4096 .f32) : P F PUnit := do
  let v ← loadS D j
  let _ ← loadO D
  storeO D (k0_pay69 p v)

def lastStep (c : Dev nD) : P F PUnit := do
  enq .cw (devR c 14) (sl 14) (sl 15)
  enq .ccw (devL c 14) (sl 14) (sl 15)
  let p ← partial_ .cw c 15
  let q ← partial_ .ccw c 15
  waitOn (sem3 (recvA .cw) (sl 15)) .cw (sl 14) (sl 15)
  waitOn (sem3 (recvA .ccw) (sl 15)) .ccw (sl 14) (sl 15)
  finish .cw (sl 15) p
  finish .ccw (sl 15) q
  waitOn (sem3 (sendA .cw) (sl 14)) .cw (sl 15) (sl 14)
  waitOn (sem3 (sendA .ccw) (sl 14)) .ccw (sl 15) (sl 14)

/-- Row `c` of the maxima, as the program prints it. -/
abbrev rowR (c : Dev nD) : Rect S16x128 := Rect.unit (s := S16x128) (k0_off4 c) S1x128.size (k0_off4_inb c)
abbrev rowM (c : Dev nD) : Memref sig .tc .vmem S1x128 .f32 := aM.slice (rowR c) (fun _ => rfl)
/-- The row that the `d`-th copy lands in, counted from 0. -/
abbrev rowM' (c : Dev nD) (d : Fin 15) : Memref sig .tc .vmem S1x128 .f32 :=
  aM.slice (Rect.unit (s := S16x128) (k0_off5 c (BitVec.ofNat 32 (1 + d.val))) S1x128.size (k0_off5_inb c d)) (fun _ => rfl)

def storeMax (c : Dev nD) : P F PUnit := do
  let v ← Prog.lift (.load oM allR.toLoadRect (View.loadsAt_vmem h_S256x8192))
  let _ : Vec F S1x128 .f32 ← Prog.lift (.load aM (Rect.unit (s := S16x128) (k0_off3 c) S1x128.size (k0_off3_inb c)).toLoadRect (View.loadsAt_vmem h_S1x128))
  Prog.lift (.store aM (Rect.unit (s := S16x128) (k0_off3 c) S1x128.size (k0_off3_inb c)) (k0_pay71 v) Finset.univ (View.stores_vmem_bits_univ h_S1x128 rfl) (.inl rfl))

/-- The number of the `d`-th copy's semaphores. -/
abbrev ix (d : ℕ) : Fin 16 := ⟨(d + 1) % 16, Nat.mod_lt _ (by decide)⟩

def sendMax (c : Dev nD) (d : ℕ) : P F PUnit :=
  Prog.lift (.enqueueDma (rowM c) (.remote (Dev.tc (devA c d)) (rowM c) (.dma (sem16 cc0_scratch7 (ix d)))) (.dma (sem16 cc0_scratch8 (ix d)))
    (View.wordExact_bits rfl) (View.wordExact_bits rfl) ⟨⟨rfl, Or.inl rfl⟩, trivial⟩)
def recvMax (c : Dev nD) (d : ℕ) : P F PUnit :=
  Prog.lift (.waitDma2 (sem16 cc0_scratch8 (ix d)) (rowM c) (rowM' c ⟨d % 15, Nat.mod_lt _ (by decide)⟩) (View.wordExact_bits rfl) (View.wordExact_bits rfl))
def sentMax (c : Dev nD) (d : ℕ) : P F PUnit :=
  Prog.lift (.waitDma2 (sem16 cc0_scratch7 (ix d)) (rowM c) (rowM c) (View.wordExact_bits rfl) (View.wordExact_bits rfl))

/-- A program for each number of a list, in order. -/
def each (f : ℕ → P F PUnit) : List ℕ → P F PUnit
  | [] => Prog.ret ⟨⟩
  | n :: l => (f n).bind fun _ => each f l

def prologue (c : Dev nD) : P F PUnit := do
  semSignalWord (⟨k0_dev1 c, k0_dev1_lt c⟩ : Dev nD) barS 1#32
  semSignalWord (⟨k0_dev2 c, k0_dev2_lt c⟩ : Dev nD) barS 1#32
  semWaitWord barS 2#32
  first .cw c
  first .ccw c

def epilogue : P F PUnit := do
  let a ← Prog.lift (.load aM amaxAllR.toLoadRect (View.loadsAt_vmem h_S16x128))
  let v ← Prog.lift (.load oM allR.toLoadRect (View.loadsAt_vmem h_S256x8192))
  let _ ← Prog.lift (.load oM allR.toLoadRect (View.loadsAt_vmem h_S256x8192))
  Prog.lift (.store oM allR (k0_pay72 a v) Finset.univ (View.stores_vmem_bits_univ h_S256x8192 rfl) (.inl rfl))

abbrev steps : List ℕ := [0, 1, 2, 3, 4, 5, 6, 7, 8, 9, 10, 11, 12, 13]
abbrev copies : List ℕ := [0, 1, 2, 3, 4, 5, 6, 7, 8, 9, 10, 11, 12, 13, 14]

/-- The body of device `c`. -/
def body (c : Dev nD) : P F PUnit := do
  prologue c
  each (step c) steps
  lastStep c
  storeMax c
  each (sendMax c) copies
  each (recvMax c) copies
  each (sentMax c) copies
  epilogue

/-- The printed body with its buffers. -/
abbrev printed : P F PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    cc0_scratch3 cc0_scratch4 cc0_scratch5 cc0_scratch6 cc0_scratch7 cc0_scratch8

end Cert.Ring

end
-- ==== Proof.Common.lean ====
/-
# 01_k — the ring, its contents, its cells and its schedule

Device `c` sends the right-going sums to the device after it and the left-going ones to the device before it. Every
semaphore of every device is a cell; its schedule says which round is paid by whom and what the payment hands over.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Dir
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device `d` places after `c`. -/
def fwd (c : Dev nD) (d : ℕ) : Dev nD := ⟨(c.val + d) % 16, Nat.mod_lt _ (by decide)⟩
set_option backward.proofsInPublic true in
/-- The device `d` places before `c`. -/
def back (c : Dev nD) (d : ℕ) : Dev nD := ⟨(c.val + (16 - d % 16)) % 16, Nat.mod_lt _ (by decide)⟩
def nxt (c : Dev nD) : Dev nD := fwd c 1
def prv (c : Dev nD) : Dev nD := back c 1

theorem fwd_val (c : Dev nD) (d : ℕ) : (fwd c d).val = (c.val + d) % 16 := rfl
theorem back_val (c : Dev nD) (d : ℕ) : (back c d).val = (c.val + (16 - d % 16)) % 16 := rfl
theorem nxt_val (c : Dev nD) : (nxt c).val = (c.val + 1) % 16 := rfl
theorem prv_val (c : Dev nD) : (prv c).val = (c.val + 15) % 16 := rfl
theorem dev_lt (c : Dev nD) : c.val < 16 := c.isLt

theorem prv_nxt (c : Dev nD) : prv (nxt c) = c := by
  have := dev_lt c; apply Fin.ext; rw [prv_val, nxt_val]; omega
theorem nxt_prv (c : Dev nD) : nxt (prv c) = c := by
  have := dev_lt c; apply Fin.ext; rw [nxt_val, prv_val]; omega
theorem fwd_back (c : Dev nD) (d : ℕ) : fwd (back c d) d = c := by
  have := dev_lt c; apply Fin.ext; rw [fwd_val, back_val]; omega
theorem back_fwd (c : Dev nD) (d : ℕ) : back (fwd c d) d = c := by
  have := dev_lt c; apply Fin.ext; rw [back_val, fwd_val]; omega
theorem back_zero (c : Dev nD) : back c 0 = c := by
  have := dev_lt c; apply Fin.ext; rw [back_val]; omega
theorem fwd_zero (c : Dev nD) : fwd c 0 = c := by
  have := dev_lt c; apply Fin.ext; rw [fwd_val]; omega
theorem back_nxt (c : Dev nD) (d : ℕ) : back (nxt c) (d + 1) = back c d := by
  have := dev_lt c; apply Fin.ext; rw [back_val, back_val, nxt_val]; omega
theorem back_prv (c : Dev nD) (d : ℕ) : back (prv c) d = back c (d + 1) := by
  have := dev_lt c; apply Fin.ext; rw [back_val, back_val, prv_val]; omega

/-- The other direction. -/
def opp : Dir → Dir
  | .cw => .ccw
  | .ccw => .cw
/-- The device a direction's sums go to, and the one they come from. -/
def dst : Dir → Dev nD → Dev nD
  | .cw => nxt
  | .ccw => prv
def frm : Dir → Dev nD → Dev nD
  | .cw => prv
  | .ccw => nxt

theorem opp_opp (D : Dir) : opp (opp D) = D := by cases D <;> rfl
theorem dst_frm (D : Dir) (c : Dev nD) : dst D (frm D c) = c := by cases D; exacts [nxt_prv c, prv_nxt c]
theorem frm_dst (D : Dir) (c : Dev nD) : frm D (dst D c) = c := by cases D; exacts [prv_nxt c, nxt_prv c]
theorem dst_opp (D : Dir) (c : Dev nD) : dst (opp D) c = frm D c := by cases D <;> rfl
theorem frm_opp (D : Dir) (c : Dev nD) : frm (opp D) c = dst D c := by cases D <;> rfl

/-! ## The devices and rows the program addresses -/

theorem dev1_eq (c : Dev nD) : (⟨k0_dev1 c, k0_dev1_lt c⟩ : Dev nD) = dst .ccw c := Fin.ext (k0_dev1_eq c)
theorem dev2_eq (c : Dev nD) : (⟨k0_dev2 c, k0_dev2_lt c⟩ : Dev nD) = dst .cw c := Fin.ext (k0_dev2_eq c)

theorem dev_eq (D : Dir) (c : Dev nD) : ∀ s, dev c D s = dst D c := by
  intro s
  match D, s with
  | .cw, 0 => exact Fin.ext (k0_dev3_eq c)
  | .cw, 1 => exact Fin.ext (k0_dev5_eq c)
  | .cw, 2 => exact Fin.ext (k0_dev7_eq c)
  | .cw, 3 => exact Fin.ext (k0_dev9_eq c)
  | .cw, 4 => exact Fin.ext (k0_dev11_eq c)
  | .cw, 5 => exact Fin.ext (k0_dev13_eq c)
  | .cw, 6 => exact Fin.ext (k0_dev15_eq c)
  | .cw, 7 => exact Fin.ext (k0_dev17_eq c)
  | .cw, 8 => exact Fin.ext (k0_dev19_eq c)
  | .cw, 9 => exact Fin.ext (k0_dev21_eq c)
  | .cw, 10 => exact Fin.ext (k0_dev23_eq c)
  | .cw, 11 => exact Fin.ext (k0_dev25_eq c)
  | .cw, 12 => exact Fin.ext (k0_dev27_eq c)
  | .cw, 13 => exact Fin.ext (k0_dev29_eq c)
  | .cw, _ + 14 => exact Fin.ext (k0_dev31_eq c)
  | .ccw, 0 => exact Fin.ext (k0_dev4_eq c)
  | .ccw, 1 => exact Fin.ext (k0_dev6_eq c)
  | .ccw, 2 => exact Fin.ext (k0_dev8_eq c)
  | .ccw, 3 => exact Fin.ext (k0_dev10_eq c)
  | .ccw, 4 => exact Fin.ext (k0_dev12_eq c)
  | .ccw, 5 => exact Fin.ext (k0_dev14_eq c)
  | .ccw, 6 => exact Fin.ext (k0_dev16_eq c)
  | .ccw, 7 => exact Fin.ext (k0_dev18_eq c)
  | .ccw, 8 => exact Fin.ext (k0_dev20_eq c)
  | .ccw, 9 => exact Fin.ext (k0_dev22_eq c)
  | .ccw, 10 => exact Fin.ext (k0_dev24_eq c)
  | .ccw, 11 => exact Fin.ext (k0_dev26_eq c)
  | .ccw, 12 => exact Fin.ext (k0_dev28_eq c)
  | .ccw, 13 => exact Fin.ext (k0_dev30_eq c)
  | .ccw, _ + 14 => exact Fin.ext (k0_dev32_eq c)

theorem devA_eq (c : Dev nD) : ∀ d < 15, devA c d = fwd c (d + 1) := by
  intro d hd
  match d, hd with
  | 0, _ => exact Fin.ext (k0_dev33_eq c)
  | 1, _ => exact Fin.ext (k0_dev34_eq c)
  | 2, _ => exact Fin.ext (k0_dev35_eq c)
  | 3, _ => exact Fin.ext (k0_dev36_eq c)
  | 4, _ => exact Fin.ext (k0_dev37_eq c)
  | 5, _ => exact Fin.ext (k0_dev38_eq c)
  | 6, _ => exact Fin.ext (k0_dev39_eq c)
  | 7, _ => exact Fin.ext (k0_dev40_eq c)
  | 8, _ => exact Fin.ext (k0_dev41_eq c)
  | 9, _ => exact Fin.ext (k0_dev42_eq c)
  | 10, _ => exact Fin.ext (k0_dev43_eq c)
  | 11, _ => exact Fin.ext (k0_dev44_eq c)
  | 12, _ => exact Fin.ext (k0_dev45_eq c)
  | 13, _ => exact Fin.ext (k0_dev46_eq c)
  | 14, _ => exact Fin.ext (k0_dev47_eq c)

theorem sl_add_three (s : ℕ) : sl (s + 3) = sl s := Fin.ext (Nat.add_mod_right s 3)

/-! ## Contents -/

/-- The blocks of the arguments on a device, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The rows of `x` a direction multiplies for the sum `r`. -/
def xAt (D : Dir) (c : Dev nD) (r : Fin 16) (f : (cc0_stg0_0 : Ref sig .tc).ty.Contents (Elt F)) : Vec F S256x256 .f32 :=
  xM.view.readAt (Elt F) (xR D c r).toLoadRect f
/-- The half of `w` a direction multiplies. -/
def wAt : Dir → (cc0_stg1_0 : Ref sig .tc).ty.Contents (Elt F) → Vec F S256x4096 .f32
  | .cw, f => wM.view.readAt (Elt F) (half .cw).toLoadRect f
  | .ccw, f => wM.view.readAt (Elt F) (half .ccw).toLoadRect f

/-- The number of the sum, as the program keeps it. -/
abbrev rn (r : ℕ) : Fin 16 := ⟨r % 16, Nat.mod_lt _ (by decide)⟩

/-- The product device `c` contributes to the sum it holds before step `r` of a direction. -/
def prod (D : Dir) (c : Dev nD) (r : ℕ) : FVec F S256x4096 .f32 :=
  k0_pay3 (xAt D c (rn r) (xstg m ρ c)) (wAt D (wstg m ρ c))

/-- The sum device `c` holds before step `s` of a direction. -/
def sum (D : Dir) : Dev nD → ℕ → FVec F S256x4096 .f32
  | c, 0 => prod m ρ D c 0
  | c, s + 1 => addf (sum D (frm D c) s) (prod m ρ D c (s + 1))

set_option backward.proofsInPublic true in
/-- The two halves of the columns side by side. -/
def beside (u v : FVec F S256x4096 .f32) : (cc0_stg2_0 : Ref sig .tc).ty.Contents (Elt F) := fun (i : S256x8192.Idx) =>
  if h : (i 1).val < 4096 then u (Fin.cons (i 0) (Fin.cons ⟨(i 1).val, h⟩ fun a => a.elim0))
  else v (Fin.cons (i 0) (Fin.cons ⟨(i 1).val - 4096, by
    have : (i 1).val < 8192 := (i 1).isLt
    show (i 1).val - 4096 < 4096
    omega⟩ fun a => a.elim0))

/-- The block of the product device `c` ends up with. -/
def yAt (c : Dev nD) : (cc0_stg2_0 : Ref sig .tc).ty.Contents (Elt F) := beside (sum m ρ .cw c 15) (sum m ρ .ccw c 15)

/-- The largest absolute value of a device's block. -/
def maxv (c : Dev nD) : FVec F S1x128 .f32 := k0_pay71 (yAt m ρ c)

set_option backward.proofsInPublic true in
/-- Every device's maximum, one row each. -/
def amaxAll : (cc0_scratch2 : Ref sig .tc).ty.Contents (Elt F) := fun (i : S16x128.Idx) =>
  maxv m ρ ⟨(i 0).val, (i 0).isLt⟩ (Fin.cons ⟨0, Nat.one_pos⟩ (Fin.cons (i 1) fun a => a.elim0))

/-- What device `c` returns. -/
def outAt (c : Dev nD) : (cc0_stg2_0 : Ref sig .tc).ty.Contents (Elt F) := k0_pay72 (amaxAll m ρ) (yAt m ρ c)

/-! ## The cells -/

/-- The kernel's own semaphores: a send and a receive one for each direction and slot, sixteen of each for the maxima. -/
abbrev OK : Type := ((Dir × Fin 3) ⊕ (Dir × Fin 3)) ⊕ (Fin 16 ⊕ Fin 16)
/-- The barrier's and the kernel's own. -/
abbrev CK : Type := Unit ⊕ OK

instance : Fintype Dir := ⟨{.cw, .ccw}, fun D => by cases D <;> decide⟩

abbrev bar : CK := .inl ()
abbrev snd (D : Dir) (j : Fin 3) : CK := .inr (.inl (.inl (D, j)))
abbrev rcv (D : Dir) (j : Fin 3) : CK := .inr (.inl (.inr (D, j)))
abbrev asnd (i : Fin 16) : CK := .inr (.inr (.inl i))
abbrev arcv (i : Fin 16) : CK := .inr (.inr (.inr i))

abbrev osem : OK → SemLoc sig
  | .inl (.inl (D, j)) => .dma (sem3 (sendA D) j)
  | .inl (.inr (D, j)) => .dma (sem3 (recvA D) j)
  | .inr (.inl i) => .dma (sem16 cc0_scratch7 i)
  | .inr (.inr i) => .dma (sem16 cc0_scratch8 i)
abbrev csem : CK → SemLoc sig
  | .inl _ => .reg barS
  | .inr k => osem k

abbrev cell (c : Dev nD) (k : CK) : GSem nD τ sig := ((c : Thread nD τ), csem k)

set_option maxRecDepth 8000 in
theorem csem_injective : Function.Injective csem := by decide +kernel

/-- Which cell a semaphore is. -/
def kindOf (sm : SemLoc sig) : Option CK := by
  classical exact if h : ∃ k, csem k = sm then some h.choose else none

theorem kindOf_csem (k : CK) : kindOf (csem k) = some k := by
  have h : ∃ k', csem k' = csem k := ⟨k, rfl⟩
  unfold kindOf; rw [dif_pos h]; exact congrArg some (csem_injective h.choose_spec)
theorem kindOf_none (sm : SemLoc sig) (h : ∀ k, csem k ≠ sm) : kindOf sm = none := by
  unfold kindOf; rw [dif_neg fun ⟨k, hk⟩ => h k hk]

/-- The credit of a slot, and of a row of the maxima. -/
abbrev N : ℕ := (slotM .cw 0).view.dmaCredit
abbrev Na : ℕ := (rowM 0).view.dmaCredit
theorem N_pos : 0 < N := View.dmaCredit_pos _ (by decide)
theorem Na_pos : 0 < Na := View.dmaCredit_pos _ (by decide)
theorem credit_slot (D : Dir) (j : Fin 3) : (slotM D j).view.dmaCredit = N := by cases D <;> rfl
theorem credit_row (c : Dev nD) : (rowM c).view.dmaCredit = Na := rfl
theorem credit_row' (c : Dev nD) (d : Fin 15) : (rowM' c d).view.dmaCredit = Na := rfl

end Cert.Ring

end
-- ==== Proof.Sched.lean ====
/-
# 01_k — the schedule, what each device owes, and the levels

One duty per round of a send or receive cell, two for the barrier's one round. A landing slot travels back to its writer
with the sums of the other direction, and the rows of the maxima's buffer go round with the right-going sums.
-/
module

public import proofs.«01_k».proof.Proof.Common
public import Idealize.ShloMosaic.Lib.ShareLeaves

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What the cells hand over -/

/-- A slot holding `v`; a slot holding something. -/
def slotPts (c : Dev nD) (D : Dir) (j : Fin 3) (v : FVec F S256x4096 .f32) : sProp 𝕄 :=
  iprop(∃ f : Buf (Elt F) ((slotM D j).view.loc (c : Thread nD τ)), ⌜(slotM D j).view.read (Elt F) f = v⌝
    ∗ ((slotM D j).view.loc (c : Thread nD τ) ↦[(slotM D j).view.set]{fullShare} f))
def slotAny (c : Dev nD) (D : Dir) (j : Fin 3) : sProp 𝕄 :=
  iprop(∃ f : Buf (Elt F) ((slotM D j).view.loc (c : Thread nD τ)), ((slotM D j).view.loc (c : Thread nD τ) ↦[(slotM D j).view.set]{fullShare} f))

/-- Row `k` of device `o`'s buffer of maxima. -/
def rowPts (o k : Dev nD) (q : PosShare TreeShare) (f : (cc0_scratch2 : Ref sig .tc).ty.Contents (Elt F)) : sProp 𝕄 :=
  ((rowM k).view.loc (o : Thread nD τ) ↦[(rowM k).view.set]{q} f)
def rowAny (o k : Dev nD) : sProp 𝕄 := iprop(∃ f, rowPts o k fullShare f)

omit [FloatOps F] in
instance slotPts_storable (c : Dev nD) (D : Dir) (j : Fin 3) (v : S256x4096.Idx → Elt F .f32) :
    BI.Storable (upEmb : UEmb _ 𝕄) (slotPts (F := F) c D j v) := by unfold slotPts; infer_instance
omit [FloatOps F] in
instance slotAny_storable (c : Dev nD) (D : Dir) (j : Fin 3) : BI.Storable (upEmb : UEmb _ 𝕄) (slotAny (F := F) c D j) := by
  unfold slotAny; infer_instance
omit [FloatOps F] in
instance rowPts_storable (o k : Dev nD) (q : PosShare TreeShare) (f : (cc0_scratch2 : Ref sig .tc).ty.Contents (Elt F)) :
    BI.Storable (upEmb : UEmb _ 𝕄) (rowPts (F := F) o k q f) := by unfold rowPts; infer_instance
omit [FloatOps F] in
instance rowAny_storable (o k : Dev nD) : BI.Storable (upEmb : UEmb _ 𝕄) (rowAny (F := F) o k) := by unfold rowAny; infer_instance

/-- The landing slot a device hands back for step `s + 1` of a direction, and that it is ready for it. -/
def freed (c : Dev nD) (D : Dir) (s : ℕ) : sProp 𝕄 :=
  if s < 14 then iprop(slotAny c D (sl (s + 2)) ∗ reached ER (cell c (rcv D (sl (s + 2)))) ((s + 1) / 3)) else iprop(emp)

/-- Device `o`'s rows for the devices at distance `k` and more after it. -/
def bundle (o : Dev nD) (k : ℕ) : sProp 𝕄 := bigSep (Finset.Ico k 16) fun d => rowAny (F := F) o (fwd o d)

/-- The rows that go with step `s` of a direction to device `c`. -/
def passed (D : Dir) (c : Dev nD) (s : ℕ) : sProp 𝕄 := match D with
  | .cw => bundle (F := F) (back c (s + 1)) (s + 1)
  | .ccw => iprop(emp)

/-- What step `s` of a direction hands the device it lands on. -/
def rcvPay (c : Dev nD) (D : Dir) (s : ℕ) : sProp 𝕄 :=
  iprop(slotPts c D (sl (s + 1)) (sum m ρ D (frm D c) s) ∗ freed (F := F) (frm D c) (opp D) s ∗ passed (F := F) D c s)

def pay (c : Dev nD) : CK → ℕ → Dir → sProp 𝕄
  | .inl _, _, d => slotAny (frm d c) (opp d) 1
  | .inr (.inl (.inl (D, j))), _, _ => slotAny c D j
  | .inr (.inl (.inr (D, j))), r, _ => rcvPay m ρ c D (3 * r + (j.val + 2) % 3)
  | .inr (.inr (.inl i)), _, _ => rowPts c c (ShareLeaves.leaf 4 fullShare i) (amaxAll m ρ)
  | .inr (.inr (.inr i)), _, _ => rowPts c (back c i.val) fullShare (amaxAll m ρ)

omit [FloatOps F] in
instance freed_storable (c : Dev nD) (D : Dir) (s : ℕ) : BI.Storable (upEmb : UEmb _ 𝕄) (freed (F := F) c D s) := by
  unfold freed; split <;> infer_instance
omit [FloatOps F] in
instance bundle_storable (o : Dev nD) (k : ℕ) : BI.Storable (upEmb : UEmb _ 𝕄) (bundle (F := F) o k) := by
  unfold bundle; infer_instance
omit [FloatOps F] in
instance passed_storable (D : Dir) (c : Dev nD) (s : ℕ) : BI.Storable (upEmb : UEmb _ 𝕄) (passed (F := F) D c s) := by
  unfold passed; cases D <;> infer_instance
instance pay_storable (c : Dev nD) (k : CK) (r : ℕ) (d : Dir) : BI.Storable (upEmb : UEmb _ 𝕄) (pay (F := F) m ρ c k r d) := by
  rcases k with _ | ((⟨D, j⟩ | ⟨D, j⟩) | (i | i)) <;> unfold pay <;> (try unfold rcvPay) <;> infer_instance

/-! ## The schedule -/

def dutyOf : CK → ℕ → Finset Dir
  | .inl _, r => if r = 0 then {.cw, .ccw} else ∅
  | .inr (.inl _), r => if r < 5 then {.cw} else ∅
  | .inr (.inr (.inl i)), r => if r = 0 ∧ i ≠ 0 then {.cw} else ∅
  | .inr (.inr (.inr i)), r => if r = 0 ∧ i ≠ 0 then {.cw} else ∅
def amt : CK → ℕ
  | .inl _ => 1
  | .inr (.inl _) => N
  | .inr (.inr _) => Na
/-- The round from which a cell has nothing left to receive. -/
def fin : CK → ℕ
  | .inl _ => 1
  | .inr (.inl _) => 5
  | .inr (.inr (.inl i)) => if i = 0 then 0 else 1
  | .inr (.inr (.inr i)) => if i = 0 then 0 else 1

theorem dutyOf_fin (k : CK) (r : ℕ) (h : fin k ≤ r) : dutyOf k r = ∅ := by
  rcases k with _ | ((⟨D, j⟩ | ⟨D, j⟩) | (i | i)) <;> simp only [fin] at h <;> simp only [dutyOf]
  · exact if_neg (by omega)
  · exact if_neg (by omega)
  · exact if_neg (by omega)
  · by_cases hi : i = 0
    · exact if_neg fun h' => h'.2 hi
    · rw [if_neg hi] at h; exact if_neg fun h' => by omega
  · by_cases hi : i = 0
    · exact if_neg fun h' => h'.2 hi
    · rw [if_neg hi] at h; exact if_neg fun h' => by omega

theorem amt_pos (k : CK) : 0 < amt k := by
  rcases k with _ | (_ | _)
  · exact Nat.one_pos
  · exact N_pos
  · exact Na_pos

def Rd : Rounds.Schedule (GSem nD τ sig) Dir 𝕄 where
  duties g r := if g.1.2 = .tc then (match kindOf g.2 with | some k => dutyOf k r | none => ∅) else ∅
  unitless _ := False
  amount g _ _ := match kindOf g.2 with | some k => amt k | none => 1
  payload g r d := match kindOf g.2 with | some k => pay m ρ g.1.1 k r d | none => iprop(emp)
  amount_pos g _ _ _ := by
    split
    · exact amt_pos _
    · exact Nat.one_pos

instance Rd_storable (g : GSem nD τ sig) (r : ℕ) (d : Dir) : BI.Storable (upEmb : UEmb _ 𝕄) ((Rd (F := F) m ρ).payload g r d) := by
  show BI.Storable upEmb (match kindOf g.2 with | some k => pay m ρ g.1.1 k r d | none => iprop(emp))
  split <;> infer_instance

section Sched
variable (c : Dev nD) (k : CK) (r : ℕ) (d : Dir)

theorem duties_cell : (Rd (F := F) m ρ).duties (cell c k) r = dutyOf k r := by
  dsimp only [Rd]; rw [if_pos rfl, kindOf_csem]
theorem amount_cell : (Rd (F := F) m ρ).amount (cell c k) r d = amt k := by
  dsimp only [Rd]; rw [kindOf_csem]
theorem payload_cell : (Rd (F := F) m ρ).payload (cell c k) r d = pay m ρ c k r d := by
  dsimp only [Rd]; rw [kindOf_csem]
theorem duties_fin : ∀ r', fin k ≤ r' → (Rd (F := F) m ρ).duties (cell c k) r' = ∅ := fun r' h => by
  rw [duties_cell, dutyOf_fin k r' h]

theorem expect_one (h : dutyOf k r = {.cw}) : (Rd (F := F) m ρ).expect (cell c k) r = amt k := by
  unfold Schedule.expect Schedule.amountOf; rw [duties_cell, h, Finset.sum_singleton, amount_cell]
theorem rest_one (h : dutyOf k r = {.cw}) :
    bigSep ((Rd (F := F) m ρ).duties (cell c k) r \ ∅) (fun d => (Rd (F := F) m ρ).payload (cell c k) r d) = pay m ρ c k r .cw := by
  rw [Finset.sdiff_empty, duties_cell, h, bigSep_singleton, payload_cell]

theorem duty_ring (x : (Dir × Fin 3) ⊕ (Dir × Fin 3)) (h : r < 5) : dutyOf (.inr (.inl x)) r = {.cw} := if_pos h
theorem duty_asnd (i : Fin 16) (h : i ≠ 0) : dutyOf (asnd i) 0 = {.cw} := if_pos ⟨rfl, h⟩
theorem duty_arcv (i : Fin 16) (h : i ≠ 0) : dutyOf (arcv i) 0 = {.cw} := if_pos ⟨rfl, h⟩

theorem expect_bar : (Rd (F := F) m ρ).expect (cell c bar) 0 = 2 := by
  unfold Schedule.expect Schedule.amountOf
  rw [duties_cell, Finset.sum_congr rfl fun d _ => amount_cell m ρ c bar 0 d]; rfl
theorem rest_bar :
    bigSep ((Rd (F := F) m ρ).duties (cell c bar) 0 \ ∅) (fun d => (Rd (F := F) m ρ).payload (cell c bar) 0 d)
      = iprop(slotAny (F := F) (dst .ccw c) .ccw 1 ∗ slotAny (F := F) (dst .cw c) .cw 1) := by
  rw [Finset.sdiff_empty, duties_cell, show dutyOf bar 0 = {Dir.cw, Dir.ccw} from rfl,
    bigSep_eq_bigSepL_of_eq [Dir.cw, Dir.ccw] (by decide) (by decide), bigSepL_cons_cons, bigSepL_singleton, payload_cell, payload_cell]
  rfl

theorem pay_rcv (D : Dir) (s : ℕ) : pay m ρ c (rcv D (sl (s + 1))) (s / 3) d = rcvPay m ρ c D s := by
  show rcvPay m ρ c D (3 * (s / 3) + ((s + 1) % 3 + 2) % 3) = _
  rw [show 3 * (s / 3) + ((s + 1) % 3 + 2) % 3 = s by omega]

end Sched

/-! ## What each device owes -/

/-- The units of step `s` of a direction, owed to the device its sums land on. -/
abbrev due (D : Dir) (s : ℕ) (c : Dev nD) : CellTallies nD τ sig ℕ := tallyAt (cell (dst D c) (rcv D (sl (s + 1)))) s N
/-- The unit owed to the barrier of the device a direction's sums go to. -/
abbrev dueBar (D : Dir) (c : Dev nD) : CellTallies nD τ sig ℕ := tallyAt (cell (dst D c) bar) 0 1
/-- The credit of the `d`-th copy of the maximum. -/
abbrev dueMax (d : ℕ) (c : Dev nD) : CellTallies nD τ sig ℕ := tallyAt (cell (fwd c (d + 1)) (arcv (ix d))) 0 Na

/-- What is owed from step `s` of the ring on; from copy `d` of the maxima on. -/
def Oring (c : Dev nD) (s : ℕ) : CellTallies nD τ sig ℕ := ∑ t ∈ Finset.Ico s 15, (due .cw t c + due .ccw t c)
def Omax (c : Dev nD) (d : ℕ) : CellTallies nD τ sig ℕ := ∑ t ∈ Finset.Ico d 15, dueMax t c
def O₀ (c : Dev nD) : CellTallies nD τ sig ℕ := Oring c 0 + Omax c 0 + dueBar .cw c + dueBar .ccw c

theorem Ico_bot (s n : ℕ) (h : s < n) : Finset.Ico s n = insert s (Finset.Ico (s + 1) n) := by
  ext x; rw [Finset.mem_insert, Finset.mem_Ico, Finset.mem_Ico]; omega
theorem not_mem_Ico_succ (s n : ℕ) : s ∉ Finset.Ico (s + 1) n := fun h => by rw [Finset.mem_Ico] at h; omega

theorem Oring_step (c : Dev nD) (s : ℕ) (h : s < 15) : Oring c s = Oring c (s + 1) + due .ccw s c + due .cw s c := by
  unfold Oring; rw [Ico_bot s 15 h, Finset.sum_insert (not_mem_Ico_succ s 15), add_comm, add_assoc, add_comm (due .cw s c)]
theorem Omax_step (c : Dev nD) (d : ℕ) (h : d < 15) : Omax c d = Omax c (d + 1) + dueMax d c := by
  unfold Omax; rw [Ico_bot d 15 h, Finset.sum_insert (not_mem_Ico_succ d 15), add_comm]
theorem Oring_end (c : Dev nD) : Oring c 15 = 0 := by unfold Oring; rw [Finset.Ico_self, Finset.sum_empty]
theorem Omax_end (c : Dev nD) : Omax c 15 = 0 := by unfold Omax; rw [Finset.Ico_self, Finset.sum_empty]

def L (g : GSem nD τ sig) : Finset ℕ := if g.1.2 = .tc then Finset.range 16 else ∅
/-- The barrier below the receives of the ring, these in the order of the steps, the maxima's above them, the rest at the bottom. -/
def lvK : CK → ℕ → ℕ
  | .inl _, _ => 1
  | .inr (.inl (.inl _)), _ => 0
  | .inr (.inl (.inr _)), ι => 2 + ι
  | .inr (.inr (.inl _)), _ => 0
  | .inr (.inr (.inr _)), _ => 20
def lv (g : GSem nD τ sig) (ι : ℕ) : ℕ := match kindOf g.2 with | some k => lvK k ι | none => 0

theorem L_of_ne (g : GSem nD τ sig) (h : g.1.2 ≠ .tc) : L g = ∅ := if_neg h
theorem L_tc (c : Dev nD) (sm : SemLoc sig) : L ((c : Thread nD τ), sm) = Finset.range 16 := if_pos rfl
theorem lv_cell (c : Dev nD) (k : CK) (ι : ℕ) : lv (cell c k) ι = lvK k ι := by unfold lv; rw [kindOf_csem]

/-- A tally that is owed only above level `b`, at the indices in use. -/
def Above (b : ℕ) (O : CellTallies nD τ sig ℕ) : Prop := ∀ (g : GSem nD τ sig) (ι : ℕ), 0 < O g ι → ι ∈ L g ∧ b < lv g ι

theorem Above.zero (b : ℕ) : Above b 0 := fun g ι h => absurd h (Nat.lt_irrefl 0)
theorem Above.add {b : ℕ} {O O' : CellTallies nD τ sig ℕ} (h : Above b O) (h' : Above b O') : Above b (O + O') := fun g ι hg => by
  rw [Pi.add_apply, Finsupp.add_apply] at hg
  rcases Nat.eq_zero_or_pos (O g ι) with h0 | h0
  · exact h' g ι (by omega)
  · exact h g ι h0
theorem Above.sum {b : ℕ} {S : Finset ℕ} {O : ℕ → CellTallies nD τ sig ℕ} (h : ∀ t ∈ S, Above b (O t)) : Above b (∑ t ∈ S, O t) := by
  induction S using Finset.induction_on with
  | empty => rw [Finset.sum_empty]; exact Above.zero b
  | insert a S ha ih =>
    rw [Finset.sum_insert ha]
    exact (h a (Finset.mem_insert_self a S)).add (ih fun t ht => h t (Finset.mem_insert_of_mem ht))
theorem Above.tally {b : ℕ} (c : Dev nD) (k : CK) (ι n : ℕ) (hι : ι < 16) (h : b < lvK k ι) : Above b (tallyAt (cell c k) ι n) := fun g ι' hg => by
  rw [tallyAt_apply] at hg
  by_cases h' : g = cell c k ∧ ι' = ι
  · rw [h'.1, h'.2, L_tc, lv_cell]; exact ⟨Finset.mem_range.mpr hι, h⟩
  · rw [if_neg h'] at hg; exact absurd hg (Nat.lt_irrefl 0)

theorem above_ring (c : Dev nD) (s b : ℕ) (h : b < 2 + s) : Above b (Oring c s) :=
  Above.sum fun t ht => by
    have ht := Finset.mem_Ico.mp ht
    exact (Above.tally _ _ _ _ (by omega) (show b < 2 + t by omega)).add (Above.tally _ _ _ _ (by omega) (show b < 2 + t by omega))
theorem above_max (c : Dev nD) (d b : ℕ) (h : b < 20) : Above b (Omax c d) :=
  Above.sum fun t ht => Above.tally _ _ _ _ (by decide) h
theorem above_start (c : Dev nD) : Above 0 (O₀ c) :=
  (((above_ring c 0 0 (by decide)).add (above_max c 0 0 (by decide))).add (Above.tally _ bar _ _ (by decide) Nat.one_pos)).add
    (Above.tally _ bar _ _ (by decide) Nat.one_pos)

omit [FloatOps F] in
/-- A wait at a level below everything owed is allowed. -/
theorem mayWait (c : Dev nD) (sm : SemLoc sig) (ι b : ℕ) (O : CellTallies nD τ sig ℕ) (hι : ι < 16) (hb : lv ((c : Thread nD τ), sm) ι ≤ b) (hO : Above b O) :
    (levAts L lv : sProp 𝕄) ⊢ MayWait (c : Thread nD τ) sm ι O :=
  MayOwe.of_cut (L := L) (lev := lv) b (fun p hp => by rw [Finset.mem_singleton.mp hp, L_tc]; exact Finset.mem_range.mpr hι)
    (fun g u hg => (hO g u hg).1) (fun p hp => by rw [Finset.mem_singleton.mp hp]; exact hb) (fun g u hg => (hO g u hg).2)

end Cert.Ring

end
-- ==== Proof.Rules.lean ====
/-
# 01_k — loads, stores, products and sums

The rules of the accesses the body makes: a slot read and written through its squeezed view, a half of a block, a row of
the maxima.
-/
module

public import proofs.«01_k».proof.Proof.Sched

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- What a program of device `c` does. -/
abbrev WP (c : Dev nD) {α : Type} (p : P F α) (Q : α → sProp 𝕄) : sProp 𝕄 :=
  wp frame (wpE (defs₀ (F := F)) 𝒱₀ (c : Thread nD τ) none) Set.univ p Q

/-! ## Slots -/

/-- A slot's contents as the three-dimensional accesses see them. -/
def unsq (v : FVec F S256x4096 .f32) : FVec F S1x256x4096 .f32 := shapeCast S1x256x4096 v (by decide)

omit [FloatOps F] in
theorem squeeze_unsq (v : S256x4096.Idx → F .f32) (h : S1x256x4096.ShapeCasts S256x4096) (h' : S256x4096.ShapeCasts S1x256x4096) :
    shapeCast S256x4096 (shapeCast S1x256x4096 v h') h = v := by
  funext i
  show v (Shape.reshapeEquiv h' (Shape.reshapeEquiv h i)) = v i
  congr 1
  apply (Shape.rowMajor _).injective
  apply Fin.ext
  rw [Shape.rowMajor_reshapeEquiv, Shape.rowMajor_reshapeEquiv]
omit [FloatOps F] in
theorem unsq_squeeze (v : S1x256x4096.Idx → F .f32) (h : S1x256x4096.ShapeCasts S256x4096) (h' : S256x4096.ShapeCasts S1x256x4096) :
    shapeCast S1x256x4096 (shapeCast S256x4096 v h) h' = v := by
  funext i
  show v (Shape.reshapeEquiv h (Shape.reshapeEquiv h' i)) = v i
  congr 1
  apply (Shape.rowMajor _).injective
  apply Fin.ext
  rw [Shape.rowMajor_reshapeEquiv, Shape.rowMajor_reshapeEquiv]

theorem slot_read (D : Dir) (j : Fin 3) (f : (bufM D).view.ty.Contents (Elt F)) :
    (bufM D).view.readAt (Elt F) (slotR j).toLoadRect f = unsq ((slotM D j).view.read (Elt F) f) := by
  cases D
  · exact (unsq_squeeze (F := F) (((bufM .cw).access (slotR j)).read (Elt F) f) (by decide) (by decide)).symm
  · exact (unsq_squeeze (F := F) (((bufM .ccw).access (slotR j)).read (Elt F) f) (by decide) (by decide)).symm

theorem slot_write (D : Dir) (j : Fin 3) (f : (bufM D).view.ty.Contents (Elt F)) (w : FVec F S256x4096 .f32) :
    (slotM D j).view.read (Elt F) (((bufM D).access (slotR j)).write (Elt F) f (unsq w) Finset.univ) = w := by
  cases D
  · have h := View.read_write_univ (v := (bufM .cw).access (slotR j)) (Val := Elt F) f (unsq w)
    exact (congrArg (fun u : S1x256x4096.Idx → F .f32 => shapeCast S256x4096 u (by decide)) h).trans (squeeze_unsq (F := F) w (by decide) (by decide))
  · have h := View.read_write_univ (v := (bufM .ccw).access (slotR j)) (Val := Elt F) f (unsq w)
    exact (congrArg (fun u : S1x256x4096.Idx → F .f32 => shapeCast S256x4096 u (by decide)) h).trans (squeeze_unsq (F := F) w (by decide) (by decide))

omit [FloatOps F] in
theorem slot_set (D : Dir) (j : Fin 3) : ((bufM D).access (slotR j)).set = (slotM D j).view.set :=
  (View.set_reshape _ _).symm

theorem slot_sub_load (D : Dir) (j : Fin 3) : (bufM D).view.setOn (slotR j).toLoadRect.set ⊆ (slotM D j).view.set := by
  rw [← slot_set]; unfold Memref.access; rw [View.set_slice]; exact Finset.Subset.refl _
theorem slot_sub_store (D : Dir) (j : Fin 3) : ((bufM D).access (slotR j)).setOn Finset.univ ⊆ (slotM D j).view.set := by
  rw [← slot_set, View.setOn_univ]

omit [FloatOps F] in
theorem slotPts_any (c : Dev nD) (D : Dir) (j : Fin 3) (v : S256x4096.Idx → F .f32) : slotPts (F := F) c D j v ⊢ slotAny c D j := by
  unfold slotPts slotAny
  iintro ⟨%f, -, H⟩
  iexists f; iexact H

theorem wp_loadS (c : Dev nD) (D : Dir) (j : Fin 3) (v : FVec F S256x4096 .f32) {α : Type} (K : Vec F S1x256x4096 .f32 → P F α) (Q : α → sProp 𝕄) :
    slotPts c D j v ⊢ iprop((slotPts c D j v -∗ WP c (K (unsq v)) Q) -∗ WP c (loadS D j >>= K) Q) := by
  unfold slotPts
  iintro ⟨%f, %hf, H⟩ Hk
  simp only [loadS, Prog.lift, Prog.bind_op, Prog.bind_ret]
  iapply (wp_load 𝒱₀ (c : Thread nD τ) none Set.univ (m := bufM D) (r := (slotR j).toLoadRect) (S := (slotM D j).view.set) (slot_sub_load D j)) $$ H
  iintro H
  rw [slot_read, hf]
  iapply Hk
  iexists f
  isplitr
  · ipureintro; exact hf
  iexact H

theorem wp_storeS (c : Dev nD) (D : Dir) (j : Fin 3) (w : FVec F S256x4096 .f32) {α : Type} (K : PUnit → P F α) (Q : α → sProp 𝕄) :
    slotAny c D j ⊢ iprop((slotPts c D j w -∗ WP c (K ⟨⟩) Q) -∗ WP c (storeS D j (unsq w) >>= K) Q) := by
  unfold slotPts slotAny
  iintro ⟨%f, H⟩ Hk
  simp only [storeS, Prog.lift, Prog.bind_op, Prog.bind_ret]
  iapply (wp_store 𝒱₀ (c : Thread nD τ) none Set.univ (m := bufM D) (r := slotR j) (Mk := Finset.univ) (S := (slotM D j).view.set) (slot_sub_store D j)) $$ H
  iintro H
  iapply Hk
  iexists _
  isplitr
  rotate_left
  · iexact H
  · ipureintro; exact slot_write D j f w

/-! ## Products and sums -/

def xPts (c : Dev nD) : sProp 𝕄 := (((c : Thread nD τ).loc cc0_stg0_0) ↦{fullShare} xstg m ρ c)
def wPts (c : Dev nD) : sProp 𝕄 := (((c : Thread nD τ).loc cc0_stg1_0) ↦{fullShare} wstg m ρ c)
def oPts (c : Dev nD) (f : (cc0_stg2_0 : Ref sig .tc).ty.Contents (Elt F)) : sProp 𝕄 := (((c : Thread nD τ).loc cc0_stg2_0) ↦{fullShare} f)

theorem wp_loadX (c : Dev nD) (D : Dir) (r : Fin 16) {α : Type} (K : Vec F S256x256 .f32 → P F α) (Q : α → sProp 𝕄) :
    xPts m ρ c ⊢ iprop((xPts m ρ c -∗ WP c (K (xAt D c r (xstg m ρ c))) Q) -∗ WP c (loadX D c r >>= K) Q) := by
  unfold xPts
  iintro H Hk
  simp only [loadX, Prog.lift, Prog.bind_op, Prog.bind_ret]
  iapply (wp_load 𝒱₀ (c : Thread nD τ) none Set.univ (m := xM) (r := (xR D c r).toLoadRect) (S := Finset.univ) (Finset.subset_univ _)) $$ H
  iintro H
  iapply Hk
  iexact H

theorem wp_loadW (c : Dev nD) (D : Dir) {α : Type} (K : Vec F S256x4096 .f32 → P F α) (Q : α → sProp 𝕄) :
    wPts m ρ c ⊢ iprop((wPts m ρ c -∗ WP c (K (wAt D (wstg m ρ c))) Q) -∗ WP c (loadW D >>= K) Q) := by
  unfold wPts
  iintro H Hk
  cases D <;> simp only [loadW, wAt, Prog.lift, Prog.bind_op, Prog.bind_ret]
  · iapply (wp_load 𝒱₀ (c : Thread nD τ) none Set.univ (m := wM) (r := (half .cw).toLoadRect) (S := Finset.univ) (Finset.subset_univ _)) $$ H
    iintro H
    iapply Hk
    iexact H
  · iapply (wp_load 𝒱₀ (c : Thread nD τ) none Set.univ (m := wM) (r := (half .ccw).toLoadRect) (S := Finset.univ) (Finset.subset_univ _)) $$ H
    iintro H
    iapply Hk
    iexact H

theorem wp_partial (c : Dev nD) (D : Dir) (r : ℕ) {α : Type} (K : FVec F S256x4096 .f32 → P F α) (Q : α → sProp 𝕄) :
    iprop(xPts m ρ c ∗ wPts m ρ c) ⊢ iprop((xPts m ρ c ∗ wPts m ρ c -∗ WP c (K (prod m ρ D c r)) Q) -∗ WP c (partial_ D c (rn r) >>= K) Q) := by
  iintro ⟨Hx, Hw⟩ Hk
  unfold partial_
  simp only [bind_assoc]
  iapply (wp_loadX m ρ c D (rn r)) $$ Hx
  iintro Hx
  iapply (wp_loadW m ρ c D) $$ Hw
  iintro Hw
  simp only [pure_bind]
  iapply Hk
  isplitl [Hx] <;> iassumption

theorem accum_eq (p v : FVec F S256x4096 .f32) : k0_pay5 p (unsq v) = unsq (addf v p) := by
  unfold k0_pay5 unsq
  rw [squeeze_unsq]
theorem finish_eq (p v : FVec F S256x4096 .f32) : k0_pay69 p (unsq v) = addf v p := by
  unfold k0_pay69 unsq
  rw [squeeze_unsq]
theorem first_eq (a : Vec F S256x256 .f32) (b : Vec F S256x4096 .f32) : k0_pay1 a b = unsq (k0_pay3 a b) := rfl

theorem wp_accum (c : Dev nD) (D : Dir) (j : Fin 3) (v p : FVec F S256x4096 .f32) {α : Type} (K : PUnit → P F α) (Q : α → sProp 𝕄) :
    slotPts c D j v ⊢ iprop((slotPts c D j (addf v p) -∗ WP c (K ⟨⟩) Q) -∗ WP c (accum D j p >>= K) Q) := by
  iintro H Hk
  unfold accum
  simp only [bind_assoc]
  iapply (wp_loadS c D j v) $$ H
  iintro H
  iapply (wp_loadS c D j v) $$ H
  iintro H
  rw [accum_eq]
  ihave H' := (slotPts_any c D j v) $$ H
  iapply (wp_storeS c D j (addf v p)) $$ H'
  iexact Hk

theorem wp_first (c : Dev nD) (D : Dir) {α : Type} (K : PUnit → P F α) (Q : α → sProp 𝕄) :
    iprop(xPts m ρ c ∗ wPts m ρ c ∗ slotAny c D 0)
      ⊢ iprop((xPts m ρ c ∗ wPts m ρ c ∗ slotPts c D 0 (sum m ρ D c 0) -∗ WP c (K ⟨⟩) Q) -∗ WP c (first D c >>= K) Q) := by
  iintro ⟨Hx, Hw, Hs⟩ Hk
  unfold first
  simp only [bind_assoc]
  iapply (wp_loadX m ρ c D 0) $$ Hx
  iintro Hx
  iapply (wp_loadW m ρ c D) $$ Hw
  iintro Hw
  unfold slotAny
  icases Hs with ⟨%f, Hs⟩
  ihave Hs := (show _ ⊢ slotPts c D 0 ((slotM D 0).view.read (Elt F) f) from by
    unfold slotPts
    iintro H
    iexists f
    isplitr
    · ipureintro; rfl
    iexact H) $$ Hs
  iapply (wp_loadS c D 0 _) $$ Hs
  iintro Hs
  rw [first_eq]
  ihave H' := (slotPts_any c D 0 _) $$ Hs
  iapply (wp_storeS c D 0 _) $$ H'
  iintro H
  iapply Hk
  isplitl [Hx]; · iexact Hx
  isplitl [Hw]; · iexact Hw
  iexact H

/-! ## The result's halves -/

/-- A block with the half of a direction replaced. -/
def setHalf : Dir → (cc0_stg2_0 : Ref sig .tc).ty.Contents (Elt F) → FVec F S256x4096 .f32 → (cc0_stg2_0 : Ref sig .tc).ty.Contents (Elt F)
  | .cw, f, v => (oM.access (half .cw)).write (Elt F) f v Finset.univ
  | .ccw, f, v => (oM.access (half .ccw)).write (Elt F) f v Finset.univ

theorem wp_finish (c : Dev nD) (D : Dir) (j : Fin 3) (v p : FVec F S256x4096 .f32) (f : (cc0_stg2_0 : Ref sig .tc).ty.Contents (Elt F))
    {α : Type} (K : PUnit → P F α) (Q : α → sProp 𝕄) :
    iprop(slotPts c D j v ∗ oPts c f)
      ⊢ iprop((slotPts c D j v ∗ oPts c (setHalf D f (addf v p)) -∗ WP c (K ⟨⟩) Q) -∗ WP c (finish D j p >>= K) Q) := by
  unfold oPts
  iintro ⟨H, Ho⟩ Hk
  unfold finish
  simp only [bind_assoc]
  iapply (wp_loadS c D j v) $$ H
  iintro H
  rw [finish_eq]
  cases D <;> simp only [loadO, storeO, setHalf, Prog.lift, Prog.bind_op, Prog.bind_ret]
  · iapply (wp_load 𝒱₀ (c : Thread nD τ) none Set.univ (m := oM) (r := (half .cw).toLoadRect) (S := Finset.univ) (Finset.subset_univ _)) $$ Ho
    iintro Ho
    iapply (wp_store 𝒱₀ (c : Thread nD τ) none Set.univ (m := oM) (r := half .cw) (Mk := Finset.univ) (S := Finset.univ) (Finset.subset_univ _)) $$ Ho
    iintro Ho
    iapply Hk
    isplitl [H] <;> iassumption
  · iapply (wp_load 𝒱₀ (c : Thread nD τ) none Set.univ (m := oM) (r := (half .ccw).toLoadRect) (S := Finset.univ) (Finset.subset_univ _)) $$ Ho
    iintro Ho
    iapply (wp_store 𝒱₀ (c : Thread nD τ) none Set.univ (m := oM) (r := half .ccw) (Mk := Finset.univ) (S := Finset.univ) (Finset.subset_univ _)) $$ Ho
    iintro Ho
    iapply Hk
    isplitl [H] <;> iassumption

end Cert.Ring

end
-- ==== Proof.Views.lean ====
/-
# 01_k — slots, halves and rows as parts of their buffers

A three-slot buffer is its slots, the buffer of maxima its sixteen rows, a block its two halves.
-/
module

public import proofs.«01_k».proof.Proof.Rules

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Slots -/

theorem mem_slot (j : Fin 3) (i : S3x256x4096.Idx) : i ∈ (slotR j).set ↔ (i 0).val = j.val := by
  rw [Rect.mem_set_unit]
  constructor
  · intro h
    have h0 := h 0
    have h1 : j.val ≤ (i 0).val := h0.1
    have h2 : (i 0).val < j.val + 1 := h0.2
    omega
  · intro h a
    have hi := (i a).isLt
    match a with
    | 0 => exact ⟨(show j.val ≤ (i 0).val by omega), (show (i 0).val < j.val + 1 by omega)⟩
    | 1 => exact ⟨Nat.zero_le _, (show (i 1).val < 0 + 256 by have : (i 1).val < 256 := hi; omega)⟩
    | 2 => exact ⟨Nat.zero_le _, (show (i 2).val < 0 + 4096 by have : (i 2).val < 4096 := hi; omega)⟩

omit [FloatOps F] in
/-- A location whose indices are parted is the parts. -/
theorem whole_eq {ℓ : Loc nD τ sig} {T : Type} [DecidableEq T] [Fintype T] (q : PosShare TreeShare) (K : T → Finset (Idx ℓ))
    (hd : ∀ t t', t ≠ t' → Disjoint (K t) (K t')) (hc : Finset.univ.biUnion K = Finset.univ) (f : Buf (Elt F) ℓ) :
    (ℓ ↦{q} f : sProp 𝕄) = bigSep Finset.univ fun t => (ℓ ↦[K t]{q} f : sProp 𝕄) := by
  rw [← hc]
  exact pointsTo_biUnion Finset.univ K fun t _ t' _ h => hd t t' h

omit [FloatOps F] in
/-- Parts with any contents make up the location with some contents. -/
theorem parts_join {ℓ : Loc nD τ sig} {T : Type} [DecidableEq T] [Fintype T] (q : PosShare TreeShare) (K : T → Finset (Idx ℓ))
    (hd : ∀ t t', t ≠ t' → Disjoint (K t) (K t')) (hc : Finset.univ.biUnion K = Finset.univ) (f₀ : Buf (Elt F) ℓ) :
    bigSep Finset.univ (fun t => iprop(∃ f, ℓ ↦[K t]{q} f)) ⊢ (iprop(∃ f, ℓ ↦{q} f) : sProp 𝕄) := by
  haveI : Nonempty (Buf (Elt F) ℓ) := ⟨f₀⟩
  iintro H
  ihave H := (BI.bigSep_exists_pi (Finset.univ : Finset T) (fun t (f : Buf (Elt F) ℓ) => (ℓ ↦[K t]{q} f : sProp 𝕄))) $$ H
  icases H with ⟨%fs, H⟩
  ihave H := (pointsTo_biUnion_join Finset.univ K fs f₀ fun t _ t' _ h => hd t t' h) $$ H
  icases H with ⟨%g, -, H⟩
  rw [hc]
  iexists g; iexact H

/-- Where a direction's slots are. -/
abbrev bufLoc (D : Dir) (c : Dev nD) : Loc nD τ sig := (bufM D).view.loc (c : Thread nD τ)

/-- The elements of slot `j`. -/
abbrev slotSet (D : Dir) (c : Dev nD) (j : Fin 3) : Finset (Idx (bufLoc D c)) := (slotM D j).view.set
theorem mem_slotSet (D : Dir) (c : Dev nD) (j : Fin 3) (i : S3x256x4096.Idx) :
    (match D with | .cw => i ∈ slotSet .cw c j | .ccw => i ∈ slotSet .ccw c j) ↔ (i 0).val = j.val := by
  cases D
  · show i ∈ slotSet .cw c j ↔ _
    rw [show slotSet .cw c j = (slotR j).set from (slot_set .cw j).symm.trans (View.set_slice_whole cc0_scratch0 (slotR j))]
    exact mem_slot j i
  · show i ∈ slotSet .ccw c j ↔ _
    rw [show slotSet .ccw c j = (slotR j).set from (slot_set .ccw j).symm.trans (View.set_slice_whole cc0_scratch1 (slotR j))]
    exact mem_slot j i

theorem slotSet_disjoint (D : Dir) (c : Dev nD) (j j' : Fin 3) (h : j ≠ j') : Disjoint (slotSet D c j) (slotSet D c j') := by
  rw [Finset.disjoint_left]
  intro i hi hi'
  cases D
  · exact h (Fin.ext (((mem_slotSet .cw c j i).mp hi).symm.trans ((mem_slotSet .cw c j' i).mp hi')))
  · exact h (Fin.ext (((mem_slotSet .ccw c j i).mp hi).symm.trans ((mem_slotSet .ccw c j' i).mp hi')))
theorem slotSet_cover (D : Dir) (c : Dev nD) : Finset.univ.biUnion (slotSet D c) = Finset.univ := by
  refine Finset.eq_univ_of_forall fun i => ?_
  cases D
  · exact Finset.mem_biUnion.mpr ⟨((i : S3x256x4096.Idx) 0), Finset.mem_univ _, (mem_slotSet .cw c _ i).mpr rfl⟩
  · exact Finset.mem_biUnion.mpr ⟨((i : S3x256x4096.Idx) 0), Finset.mem_univ _, (mem_slotSet .ccw c _ i).mpr rfl⟩

omit [FloatOps F] in
theorem slotAny_eq (c : Dev nD) (D : Dir) (j : Fin 3) :
    slotAny (F := F) c D j = iprop(∃ f : Buf (Elt F) (bufLoc D c), bufLoc D c ↦[slotSet D c j]{fullShare} f) := rfl

omit [FloatOps F] in
theorem bigSep_slots (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A buffer cut into its slots, -/
theorem slots_split (c : Dev nD) (D : Dir) (f : Buf (Elt F) (bufLoc D c)) :
    (bufLoc D c ↦{fullShare} f : sProp 𝕄) ⊢ iprop(slotAny c D 0 ∗ slotAny c D 1 ∗ slotAny c D 2) := by
  rw [← bigSep_slots (fun j => slotAny c D j), whole_eq fullShare (slotSet D c) (slotSet_disjoint D c) (slotSet_cover D c)]
  have h : ∀ j : Fin 3, (bufLoc D c ↦[slotSet D c j]{fullShare} f : sProp 𝕄) ⊢ slotAny c D j := fun j => by
    rw [slotAny_eq]; iintro H; iexists f; iexact H
  exact bigSep_mono fun j _ => h j

omit [FloatOps F] in
/-- and put together again. -/
theorem slots_join (c : Dev nD) (D : Dir) :
    iprop(slotAny c D 0 ∗ slotAny c D 1 ∗ slotAny c D 2)
      ⊢ (iprop(∃ f : Buf (Elt F) (bufLoc D c), bufLoc D c ↦{fullShare} f) : sProp 𝕄) := by
  simp only [slotAny_eq]
  iintro ⟨⟨%f, H0⟩, H⟩
  iapply (parts_join fullShare (slotSet D c) (slotSet_disjoint D c) (slotSet_cover D c) f)
  rw [bigSep_slots]
  isplitl [H0]
  · iexists f; iexact H0
  iexact H

/-! ## Halves -/

theorem halves_beside (f : (cc0_stg2_0 : Ref sig .tc).ty.Contents (Elt F)) (u v : FVec F S256x4096 .f32) :
    setHalf .ccw (setHalf .cw f u) v = beside u v := by
  funext (i : S256x8192.Idx)
  have hi1 : (i 1).val < 8192 := (i 1).isLt
  show (oM.access (half .ccw)).write (Elt F) ((oM.access (half .cw)).write (Elt F) f u Finset.univ) v Finset.univ i = _
  unfold beside
  by_cases h : (i 1).val < 4096
  · rw [dif_pos h]
    have hx : i = (oM.access (half .cw)).emb (Fin.cons (i 0) (Fin.cons ⟨(i 1).val, h⟩ fun a => a.elim0) : S256x4096.Idx) := by
      funext a; apply Fin.ext
      match a with
      | 0 => show (i 0).val = 0 + 1 * (i 0).val; omega
      | 1 => show (i 1).val = 0 + 1 * (i 1).val; omega
    refine (View.write_of_not_mem (v := oM.access (half .ccw)) _ _ _ ?_).trans ?_
    · intro hm
      obtain ⟨y, -, hy⟩ := Finset.mem_map.mp hm
      have h1 : (4096 + 1 * (y 1).val) = (i 1).val := congrArg (fun z : S256x8192.Idx => (z 1).val) hy
      omega
    · refine (congrArg _ hx).trans ?_
      exact View.write_emb_of_mem (v := oM.access (half .cw)) _ _ (Finset.mem_univ _)
  · rw [dif_neg h]
    have hx : i = (oM.access (half .ccw)).emb (Fin.cons (i 0) (Fin.cons ⟨(i 1).val - 4096, (show (i 1).val - 4096 < 4096 by omega)⟩ fun a => a.elim0) : S256x4096.Idx) := by
      funext a; apply Fin.ext
      match a with
      | 0 => show (i 0).val = 0 + 1 * (i 0).val; omega
      | 1 => show (i 1).val = 4096 + 1 * ((i 1).val - 4096); omega
    refine (congrArg _ hx).trans ?_
    exact View.write_emb_of_mem (v := oM.access (half .ccw)) _ _ (Finset.mem_univ _)

/-! ## Rows -/

theorem mem_row (k : Dev nD) (i : S16x128.Idx) : i ∈ (rowR k).set ↔ (i 0).val = k.val := by
  rw [Rect.mem_set_unit, k0_off4_eq]
  constructor
  · intro h
    have h1 : k.val ≤ (i 0).val := (h 0).1
    have h2 : (i 0).val < k.val + 1 := (h 0).2
    omega
  · intro h a
    have hi := (i a).isLt
    match a with
    | 0 => exact ⟨(show k.val ≤ (i 0).val by omega), (show (i 0).val < k.val + 1 by omega)⟩
    | 1 => exact ⟨Nat.zero_le _, (show (i 1).val < 0 + 128 by have : (i 1).val < 128 := hi; omega)⟩

theorem row_set (k : Dev nD) : (rowM k).view.set = (rowR k).set := View.set_slice_whole cc0_scratch2 (rowR k)

omit [FloatOps F] in
theorem rowPts_eq (o k : Dev nD) (q : PosShare TreeShare) (f : (cc0_scratch2 : Ref sig .tc).ty.Contents (Elt F)) :
    rowPts (F := F) o k q f = ((o : Thread nD τ).loc cc0_scratch2 ↦[(rowR k).set]{q} f : sProp 𝕄) := by
  unfold rowPts; rw [row_set]

theorem row_disjoint (k k' : Dev nD) (h : k ≠ k') : Disjoint (rowR k).set (rowR k').set := by
  rw [Finset.disjoint_left]
  intro i hi hi'
  exact h (Fin.ext (((mem_row k i).mp hi).symm.trans ((mem_row k' i).mp hi')))
theorem row_cover : (Finset.univ : Finset (Dev nD)).biUnion (fun k => (rowR k).set) = (Finset.univ : Finset S16x128.Idx) := by
  ext i
  exact iff_of_true (Finset.mem_biUnion.mpr ⟨⟨(i 0).val, (i 0).isLt⟩, Finset.mem_univ _, (mem_row _ i).mpr rfl⟩) (Finset.mem_univ _)

omit [FloatOps F] in
/-- The buffer of maxima is its rows. -/
theorem rows_eq (c : Dev nD) (f : (cc0_scratch2 : Ref sig .tc).ty.Contents (Elt F)) :
    ((c : Thread nD τ).loc cc0_scratch2 ↦{fullShare} f : sProp 𝕄) = bigSep Finset.univ fun k : Dev nD => rowPts (F := F) c k fullShare f := by
  refine (whole_eq (ℓ := (c : Thread nD τ).loc cc0_scratch2) fullShare (fun k : Dev nD => (rowR k).set) row_disjoint row_cover f).trans ?_
  exact bigSep_congr fun k _ => (rowPts_eq c k fullShare f).symm

omit [FloatOps F] in
theorem bigSep_fwd (o : Dev nD) (Φ : Dev nD → sProp 𝕄) : bigSep Finset.univ Φ = bigSep (Finset.Ico 0 16) fun d => Φ (fwd o d) := by
  have h : (Finset.univ : Finset (Dev nD)) = (Finset.Ico 0 16).image (fwd o) := by
    ext k
    refine iff_of_true (Finset.mem_univ _) (Finset.mem_image.mpr ⟨(k.val + (16 - o.val)) % 16, Finset.mem_Ico.mpr ⟨Nat.zero_le _, Nat.mod_lt _ (by decide)⟩, ?_⟩)
    have := dev_lt k; have := dev_lt o
    apply Fin.ext; rw [fwd_val]; omega
  rw [h, bigSep_image_of_injOn]
  intro a ha b hb hab
  have ha := Finset.mem_Ico.mp ha; have hb := Finset.mem_Ico.mp hb
  have := congrArg Fin.val hab; rw [fwd_val, fwd_val] at this
  have := dev_lt o
  omega
omit [FloatOps F] in
theorem bigSep_back (o : Dev nD) (Φ : Dev nD → sProp 𝕄) : bigSep Finset.univ Φ = bigSep (Finset.Ico 0 16) fun d => Φ (back o d) := by
  have h : (Finset.univ : Finset (Dev nD)) = (Finset.Ico 0 16).image (back o) := by
    ext k
    refine iff_of_true (Finset.mem_univ _) (Finset.mem_image.mpr ⟨(o.val + (16 - k.val)) % 16, Finset.mem_Ico.mpr ⟨Nat.zero_le _, Nat.mod_lt _ (by decide)⟩, ?_⟩)
    have := dev_lt k; have := dev_lt o
    apply Fin.ext; rw [back_val]; omega
  rw [h, bigSep_image_of_injOn]
  intro a ha b hb hab
  have ha := Finset.mem_Ico.mp ha; have hb := Finset.mem_Ico.mp hb
  have := congrArg Fin.val hab; rw [back_val, back_val] at this
  have := dev_lt o
  omega

omit [FloatOps F] in
theorem Ico_one (s n : ℕ) (h : s < n) (Φ : ℕ → sProp 𝕄) : bigSep (Finset.Ico s n) Φ = iprop(Φ s ∗ bigSep (Finset.Ico (s + 1) n) Φ) := by
  rw [Ico_bot s n h, bigSep_insert (not_mem_Ico_succ s n)]; rfl

omit [FloatOps F] in
/-- At the start a device keeps its own row and passes the others on. -/
theorem rows_split (c : Dev nD) (f : (cc0_scratch2 : Ref sig .tc).ty.Contents (Elt F)) :
    ((c : Thread nD τ).loc cc0_scratch2 ↦{fullShare} f : sProp 𝕄) ⊢ iprop(rowAny c c ∗ bundle c 1) := by
  rw [rows_eq, bigSep_fwd c]
  have h : ∀ k : Dev nD, rowPts (F := F) c k fullShare f ⊢ rowAny c k := fun k => by
    unfold rowAny; iintro H; iexists f; iexact H
  refine (bigSep_mono fun d _ => h (fwd c d)).trans ?_
  rw [Ico_one 0 16 (by decide), fwd_zero]
  exact BI.Entails.refl _

/-- At the end a device holds every row, its own and those of the devices before it. -/
theorem rows_join (c : Dev nD) (f : (cc0_scratch2 : Ref sig .tc).ty.Contents (Elt F)) :
    iprop(rowPts c c fullShare f ∗ bigSep (Finset.Ico 1 16) fun d => rowPts (F := F) c (back c d) fullShare f)
      ⊢ ((c : Thread nD τ).loc cc0_scratch2 ↦{fullShare} f : sProp 𝕄) := by
  rw [rows_eq, bigSep_back c, Ico_one 0 16 (by decide), back_zero]

/-- Writing what a view reads of some contents makes them these on the view. -/
theorem write_read_on {sp : Space} {s : Shape} {e : EltTy} (v : View sig .tc sp s e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ _), View.read_apply, cast_cast, cast_eq]

theorem amaxAll_at (k : Dev nD) (i : S16x128.Idx) (x : S1x128.Idx) (h0 : (i 0).val = k.val) (h1 : (i 1).val = (x 1).val) :
    amaxAll m ρ i = maxv m ρ k x := by
  unfold amaxAll
  have hk : (⟨(i 0).val, (i 0).isLt⟩ : Dev nD) = k := Fin.ext h0
  have hx : (Fin.cons ⟨0, Nat.one_pos⟩ (Fin.cons (i 1) fun a => a.elim0) : S1x128.Idx) = x := by
    funext a; apply Fin.ext
    match a with
    | 0 => show 0 = (x 0).val; have : (x 0).val < 1 := (x 0).isLt; omega
    | 1 => exact h1
  rw [← hk, ← hx]

theorem rect_read (f : (cc0_scratch2 : Ref sig .tc).ty.Contents (Elt F)) (r : Rect S16x128) (x : r.shape.Idx) :
    (aM.access r).read (Elt F) f x = f (r.emb x) := rfl

theorem row_emb (k : Dev nD) (x : S1x128.Idx) : ((rowR k).emb x 0).val = k.val ∧ ((rowR k).emb x 1).val = (x 1).val := by
  have h0 : (x 0).val = 0 := by have : (x 0).val < 1 := (x 0).isLt; omega
  constructor
  · rw [Rect.emb_apply, Rect.off_unit, k0_off4_eq]; show k.val + 1 * (x 0).val = k.val; omega
  · rw [Rect.emb_apply, Rect.off_unit, k0_off4_eq]; show 0 + 1 * (x 1).val = (x 1).val; omega

theorem row_read (k : Dev nD) : (rowM k).view.read (Elt F) (amaxAll m ρ) = maxv m ρ k := by
  funext (x : S1x128.Idx)
  exact (rect_read (amaxAll m ρ) (rowR k) x).trans (amaxAll_at m ρ k _ x (row_emb k x).1 (row_emb k x).2)

end Cert.Ring

end
-- ==== Proof.Dma.lean ====
/-
# 01_k — the copies and the waits for them

One rule for each: a slot sent, its landing and its return; a row of the maxima sent, its landing and its return.
-/
module

public import proofs.«01_k».proof.Proof.Views

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- What every device knows of every cell: its invariant and that its first round is open; and the levels. -/
def records (K : Dev nD × CK → ℕ) : sProp 𝕄 :=
  iprop((bigSep Finset.univ fun g : Dev nD × CK => cellInv ER (Rd m ρ) (K g) (cell g.1 g.2))
    ∗ (bigSep Finset.univ fun g : Dev nD × CK => reached ER (cell g.1 g.2) 0) ∗ levAts L lv)

instance records_persistent (K : Dev nD × CK → ℕ) : BI.Persistent (records (F := F) m ρ K) := by unfold records; infer_instance

/-- What device `c` owes, whatever it has waited for. -/
def Owes (c : Dev nD) (O : CellTallies nD τ sig ℕ) : sProp 𝕄 := iprop(∃ W : Waits sig ℕ, owes (c : Thread nD τ) O W)
/-- Device `c` is at round `r` of its cell `k`. -/
def At (c : Dev nD) (k : CK) (r : ℕ) : sProp 𝕄 := iprop(atPos ER (cell c k) r ∅ 0 ∗ reached ER (cell c k) r)

instance kinds_dec : DecidableEq CK := inferInstance
instance cells_dec : DecidableEq (Dev nD × CK) := @instDecidableEqProd _ _ inferInstance kinds_dec

section Rules
variable (K : Dev nD × CK → ℕ)

theorem rec_inv (c : Dev nD) (k : CK) : records m ρ K ⊢ cellInv ER (Rd (F := F) m ρ) (K (c, k)) (cell c k) := by
  unfold records
  iintro ⟨HI, -⟩
  iapply (show (bigSep Finset.univ fun g : Dev nD × CK => cellInv ER (Rd m ρ) (K g) (cell g.1 g.2) : sProp 𝕄) ⊢ cellInv ER (Rd m ρ) (K (c, k)) (cell c k)
    from bigSep_elim (Finset.mem_univ (c, k)))
  iexact HI
theorem rec_reached (c : Dev nD) (k : CK) : records (F := F) m ρ K ⊢ reached ER (cell c k) 0 := by
  unfold records
  iintro ⟨-, HI, -⟩
  iapply (show (bigSep Finset.univ fun g : Dev nD × CK => reached ER (cell g.1 g.2) 0 : sProp 𝕄) ⊢ reached ER (cell c k) 0
    from bigSep_elim (Finset.mem_univ (c, k)))
  iexact HI
theorem rec_lev : records (F := F) m ρ K ⊢ levAts L lv := by
  unfold records
  iintro ⟨-, -, H⟩
  iexact H

/-- The tokens of the two cells step `s` of a direction pays. -/
def tok (D : Dir) (c : Dev nD) (s : ℕ) : sProp 𝕄 :=
  iprop(dutyTok ER (cell c (snd D (sl s))) (s / 3) Dir.cw ∗ dutyTok ER (cell (dst D c) (rcv D (sl (s + 1)))) (s / 3) Dir.cw)

/-- The slot step `s` of a direction lands in, at the device it lands on. -/
def Right (D : Dir) (c : Dev nD) (s : ℕ) : sProp 𝕄 :=
  iprop(slotAny (F := F) (dst D c) D (sl (s + 1)) ∗ reached ER (cell (dst D c) (rcv D (sl (s + 1)))) (s / 3))

theorem div_lt_five (s : ℕ) (h : s < 15) : s / 3 < 5 := by omega

theorem wp_enq (c n : Dev nD) (D : Dir) (s : ℕ) (hn : n = dst D c) (hs : s < 15) (v : FVec F S256x4096 .f32) (hv : v = sum m ρ D c s)
    (O : CellTallies nD τ sig ℕ) {α : Type} (k : PUnit → P F α) (Q : α → sProp 𝕄) :
    iprop(records m ρ K ∗ slotPts c D (sl s) v ∗ Right D c s ∗ (freed c (opp D) s ∗ passed D (dst D c) s)
        ∗ Owes c (O + due D s c) ∗ tok D c s ∗ reached ER (cell c (snd D (sl s))) (s / 3))
      ⊢ iprop((cred (tallyAt (cell c (snd D (sl s))) 0 N) ∗ Owes c O -∗ WP c (k ⟨⟩) Q) -∗ WP c (enq D n (sl s) (sl (s + 1)) >>= k) Q) := by
  subst hn
  unfold slotPts Right Owes tok slotAny
  iintro ⟨#HR, ⟨%f, %hf, Hs⟩, ⟨⟨%g, Hd⟩, #Hr⟩, HF, ⟨%W, HO⟩, ⟨Ht, Ht'⟩, #Hq⟩ Hk
  simp only [enq, Prog.lift, Prog.bind_op, Prog.bind_ret]
  have hd₁ : Dir.cw ∈ (Rd (F := F) m ρ).duties (cell c (snd D (sl s))) (s / 3) := by
    rw [duties_cell, duty_ring _ _ (div_lt_five s hs)]; exact Finset.mem_singleton_self _
  have hd₂ : Dir.cw ∈ (Rd (F := F) m ρ).duties (cell (dst D c) (rcv D (sl (s + 1)))) (s / 3) := by
    rw [duties_cell, duty_ring _ _ (div_lt_five s hs)]; exact Finset.mem_singleton_self _
  have hp₁ : ((slotM D (sl s)).view.loc (c : Thread nD τ) ↦[(slotM D (sl s)).view.set]{fullShare} f : sProp 𝕄)
      ⊢ (Rd (F := F) m ρ).payload (cell c (snd D (sl s))) (s / 3) Dir.cw := by
    rw [payload_cell]
    show _ ⊢ slotAny c D (sl s)
    unfold slotAny; iintro H; iexists f; iexact H
  have hp₂ : iprop(((slotM D (sl (s + 1))).view.loc (dst D c : Thread nD τ) ↦[(slotM D (sl (s + 1))).view.set]{fullShare}
        ((slotM D (sl (s + 1))).view.write (Elt F) g ((slotM D (sl s)).view.read (Elt F) f) Finset.univ)) ∗ (freed c (opp D) s ∗ passed D (dst D c) s))
      ⊢ (Rd (F := F) m ρ).payload (cell (dst D c) (rcv D (sl (s + 1)))) (s / 3) Dir.cw := by
    rw [payload_cell, pay_rcv]
    unfold rcvPay slotPts
    rw [frm_dst]
    iintro ⟨H, HF⟩
    isplitl [H]
    · iexists _
      isplitr
      rotate_left
      · iexact H
      · ipureintro; rw [View.read_write_univ, hf, hv]
    iexact HF
  iapply (Rounds.wp_send_pointsTo_with 𝒱₀ ER (Rd m ρ) (c : Thread nD τ) none (κ₁ := K (c, snd D (sl s))) (κ₂ := K (dst D c, rcv D (sl (s + 1))))
    (c' := (dst D c : Thread nD τ)) (src := slotM D (sl s)) (dst := slotM D (sl (s + 1)))
    (r₁ := s / 3) (r₂ := s / 3) (d₁ := Dir.cw) (d₂ := Dir.cw) (fs := f) (fd := g) (F := iprop(freed c (opp D) s ∗ passed D (dst D c) s))
    hd₁ hd₂ s 0 N (credit_slot D (sl (s + 1))) (amount_cell m ρ c (snd D (sl s)) (s / 3) Dir.cw) (amount_cell m ρ (dst D c) (rcv D (sl (s + 1))) (s / 3) Dir.cw)
    O rfl (W := W) hp₁ hp₂) $$ [Hs Hd HF HO Ht Ht']
  · isplitr; · iapply (rec_inv m ρ K c (snd D (sl s))); iexact HR
    isplitr; · iapply (rec_inv m ρ K (dst D c) (rcv D (sl (s + 1)))); iexact HR
    isplitl [Hs]; · iexact Hs
    isplitl [Hd HF]
    · isplitl [Hd]; · iexact Hd
      iexact HF
    isplitl [HO]; · iexact HO
    isplitl [Ht]; · iexact Ht
    isplitr; · iexact Hq
    isplitl [Ht']; · iexact Ht'
    iexact Hr
  iintro ⟨Hc, HO⟩
  iapply Hk
  isplitl [Hc]; · iexact Hc
  iexists W; iexact HO

set_option maxRecDepth 16384 in
theorem rec_wait (c : Dev nD) (kd : CK) (ι b : ℕ) (O : CellTallies nD τ sig ℕ) (hι : ι < 16) (hb : lvK kd ι ≤ b) (hO : Above b O) :
    records (F := F) m ρ K ⊢ MayWait (c : Thread nD τ) (csem kd) ι O := by
  have h : lv ((c : Thread nD τ), csem kd) ι ≤ b := by
    have := lv_cell c kd ι
    unfold cell at this
    rw [this]; exact hb
  exact (rec_lev m ρ K).trans (mayWait (F := F) c (csem kd) ι b O hι h hO)

set_option maxRecDepth 16384 in
/-- A wait for a round of one payment. -/
theorem wp_round (c : Dev nD) (kd : CK) (r ι b : ℕ) (O : CellTallies nD τ sig ℕ) {w : TpuEff nD τ sig (Elt F) Λ₀ .tc PUnit}
    (hw : ∀ T : PUnit → sProp 𝕄, wpE (defs₀ (F := F)) 𝒱₀ (c : Thread nD τ) none Set.univ w T = waitSpec (c : Thread nD τ) Set.univ (csem kd) (amt kd) T)
    (hdu : dutyOf kd r = {.cw}) (hι : ι < 16) (hb : lvK kd ι ≤ b) (hO : Above b O) {α : Type} (k : PUnit → P F α) (Q : α → sProp 𝕄) :
    iprop(records m ρ K ∗ cred (tallyAt (cell c kd) ι (amt kd)) ∗ Owes c O ∗ atPos ER (cell c kd) r ∅ 0)
      ⊢ iprop((Owes c O ∗ At c kd (r + 1) ∗ pay m ρ c kd r .cw -∗ WP c (k ⟨⟩) Q) -∗ WP c (.op w k) Q) := by
  unfold Owes At
  iintro ⟨#HR, Hc, ⟨%W, HO⟩, Ha⟩ Hk
  iapply (Rounds.wp_wait_rest_token 𝒱₀ ER (Rd m ρ) (c : Thread nD τ) none (κ := K (c, kd)) hw (Set.mem_univ _) ι (O := O) (W := W) (R := r) (m := 0) (T := ∅)
    (by rw [Nat.zero_add, expect_one m ρ c kd r hdu])) $$ [Hc HO Ha]
  · isplitr; · iapply (rec_inv m ρ K c kd); iexact HR
    isplitl [Hc]; · iexact Hc
    isplitl [HO]; · iexact HO
    isplitr
    · iapply (rec_wait m ρ K c kd ι b O hι hb hO); iexact HR
    iexact Ha
  iintro ⟨HO, Ha, Hr, Hp⟩
  ihave Hp := (Entails.of_eq (rest_one m ρ c kd r hdu)) $$ Hp
  iapply Hk
  isplitl [HO]; · iexists _; iexact HO
  isplitl [Ha Hr]
  · isplitl [Ha] <;> iassumption
  iexact Hp

theorem wp_recv (c : Dev nD) (D : Dir) (s : ℕ) (hs : s < 15) (O : CellTallies nD τ sig ℕ) (hO : Above (2 + s) O)
    {α : Type} (k : PUnit → P F α) (Q : α → sProp 𝕄) :
    iprop(records m ρ K ∗ cred (tallyAt (cell c (rcv D (sl (s + 1)))) s N) ∗ Owes c O ∗ atPos ER (cell c (rcv D (sl (s + 1)))) (s / 3) ∅ 0)
      ⊢ iprop((Owes c O ∗ At c (rcv D (sl (s + 1))) (s / 3 + 1) ∗ rcvPay m ρ c D s -∗ WP c (k ⟨⟩) Q)
        -∗ WP c (waitOn (sem3 (recvA D) (sl (s + 1))) D (sl s) (sl (s + 1)) >>= k) Q) := by
  rw [← pay_rcv m ρ c .cw D s]
  exact wp_round m ρ K c (rcv D (sl (s + 1))) (s / 3) s (2 + s) O
    (fun T => (wpE_waitDma2_eq 𝒱₀ (c : Thread nD τ) none Set.univ T).trans (by rw [credit_slot D (sl (s + 1))]; rfl))
    (duty_ring _ _ (div_lt_five s hs)) (by omega) (Nat.le_refl _) hO k Q

theorem wp_sent (c : Dev nD) (D : Dir) (s : ℕ) (hs : s < 15) (O : CellTallies nD τ sig ℕ) (hO : Above 0 O)
    {α : Type} (k : PUnit → P F α) (Q : α → sProp 𝕄) :
    iprop(records m ρ K ∗ cred (tallyAt (cell c (snd D (sl s))) 0 N) ∗ Owes c O ∗ atPos ER (cell c (snd D (sl s))) (s / 3) ∅ 0)
      ⊢ iprop((Owes c O ∗ At c (snd D (sl s)) (s / 3 + 1) ∗ slotAny c D (sl s) -∗ WP c (k ⟨⟩) Q)
        -∗ WP c (waitOn (sem3 (sendA D) (sl s)) D (sl (s + 1)) (sl s) >>= k) Q) :=
  wp_round m ρ K c (snd D (sl s)) (s / 3) 0 0 O
    (fun T => (wpE_waitDma2_eq 𝒱₀ (c : Thread nD τ) none Set.univ T).trans (by rw [credit_slot D (sl s)]; rfl))
    (duty_ring _ _ (div_lt_five s hs)) (by decide) (Nat.le_refl _) hO k Q

/-! ## The maxima -/

theorem ix_val (d : ℕ) (h : d < 15) : (ix d).val = d + 1 := Nat.mod_eq_of_lt (by omega)
theorem ix_ne (d : ℕ) (h : d < 15) : ix d ≠ 0 := fun h' => by
  have := congrArg Fin.val h'; rw [ix_val d h] at this; exact absurd this (Nat.succ_ne_zero d)

/-- The tokens of the two cells copy `d` pays. -/
def tokMax (c : Dev nD) (d : ℕ) : sProp 𝕄 :=
  iprop(dutyTok ER (cell c (asnd (ix d))) 0 Dir.cw ∗ dutyTok ER (cell (fwd c (d + 1)) (arcv (ix d))) 0 Dir.cw)

/-- Copy `d` of the maximum, to device `n`. -/
def sendMaxTo (c n : Dev nD) (d : ℕ) : P F PUnit :=
  Prog.lift (.enqueueDma (rowM c) (.remote (Dev.tc n) (rowM c) (.dma (sem16 cc0_scratch7 (ix d)))) (.dma (sem16 cc0_scratch8 (ix d)))
    (View.wordExact_bits rfl) (View.wordExact_bits rfl) ⟨⟨rfl, Or.inl rfl⟩, trivial⟩)
theorem sendMax_eq (c : Dev nD) (d : ℕ) : sendMax (F := F) c d = sendMaxTo c (devA c d) d := rfl

theorem wp_sendMaxTo (c n : Dev nD) (d : ℕ) (hn : n = fwd c (d + 1)) (hd : d < 15) (O : CellTallies nD τ sig ℕ) {α : Type} (k : PUnit → P F α) (Q : α → sProp 𝕄) :
    iprop(records m ρ K ∗ rowPts c c (ShareLeaves.leaf 4 fullShare (ix d)) (amaxAll m ρ) ∗ rowAny (fwd c (d + 1)) c
        ∗ Owes c (O + dueMax d c) ∗ tokMax c d)
      ⊢ iprop((cred (tallyAt (cell c (asnd (ix d))) 0 Na) ∗ Owes c O -∗ WP c (k ⟨⟩) Q) -∗ WP c (sendMaxTo c n d >>= k) Q) := by
  subst hn
  unfold Owes tokMax rowAny rowPts
  iintro ⟨#HR, Hs, ⟨%g, Hd⟩, ⟨%W, HO⟩, Ht, Ht'⟩ Hk
  simp only [sendMaxTo, Prog.lift, Prog.bind_op, Prog.bind_ret]
  have hd₁ : Dir.cw ∈ (Rd (F := F) m ρ).duties (cell c (asnd (ix d))) 0 := by
    rw [duties_cell, duty_asnd _ (ix_ne d hd)]; exact Finset.mem_singleton_self _
  have hd₂ : Dir.cw ∈ (Rd (F := F) m ρ).duties (cell (fwd c (d + 1)) (arcv (ix d))) 0 := by
    rw [duties_cell, duty_arcv _ (ix_ne d hd)]; exact Finset.mem_singleton_self _
  have hp₁ : ((rowM c).view.loc (c : Thread nD τ) ↦[(rowM c).view.set]{ShareLeaves.leaf 4 fullShare (ix d)} amaxAll m ρ : sProp 𝕄)
      ⊢ (Rd (F := F) m ρ).payload (cell c (asnd (ix d))) 0 Dir.cw := by
    rw [payload_cell]; exact BI.Entails.refl _
  have hp₂ : ((rowM c).view.loc (fwd c (d + 1) : Thread nD τ) ↦[(rowM c).view.set]{fullShare}
        ((rowM c).view.write (Elt F) g ((rowM c).view.read (Elt F) (amaxAll m ρ)) Finset.univ) : sProp 𝕄)
      ⊢ (Rd (F := F) m ρ).payload (cell (fwd c (d + 1)) (arcv (ix d))) 0 Dir.cw := by
    rw [payload_cell]
    show _ ⊢ rowPts (fwd c (d + 1)) (back (fwd c (d + 1)) (ix d).val) fullShare (amaxAll m ρ)
    rw [ix_val d hd, back_fwd]
    unfold rowPts
    exact Entails.of_eq (pointsTo_congr (write_read_on (F := F) (rowM c).view g (amaxAll m ρ)))
  iapply (Rounds.wp_send_pointsTo 𝒱₀ ER (Rd m ρ) (c : Thread nD τ) none (κ₁ := K (c, asnd (ix d))) (κ₂ := K (fwd c (d + 1), arcv (ix d)))
    (c' := (fwd c (d + 1) : Thread nD τ)) (src := rowM c) (dst := rowM c)
    (r₁ := 0) (r₂ := 0) (d₁ := Dir.cw) (d₂ := Dir.cw) (fs := amaxAll m ρ) (fd := g)
    hd₁ hd₂ 0 0 Na (credit_row c) (amount_cell m ρ c (asnd (ix d)) 0 Dir.cw) (amount_cell m ρ (fwd c (d + 1)) (arcv (ix d)) 0 Dir.cw)
    O rfl (W := W) hp₁ hp₂) $$ [Hs Hd HO Ht Ht']
  · isplitr; · iapply (rec_inv m ρ K c (asnd (ix d))); iexact HR
    isplitr; · iapply (rec_inv m ρ K (fwd c (d + 1)) (arcv (ix d))); iexact HR
    isplitl [Hs]; · iexact Hs
    isplitl [Hd]; · iexact Hd
    isplitl [HO]; · iexact HO
    isplitl [Ht]; · iexact Ht
    isplitr; · iapply (rec_reached m ρ K c (asnd (ix d))); iexact HR
    isplitl [Ht']; · iexact Ht'
    iapply (rec_reached m ρ K (fwd c (d + 1)) (arcv (ix d))); iexact HR
  iintro ⟨Hc, HO⟩
  iapply Hk
  isplitl [Hc]; · iexact Hc
  iexists W; iexact HO

theorem wp_sendMax (c : Dev nD) (d : ℕ) (hd : d < 15) (O : CellTallies nD τ sig ℕ) {α : Type} (k : PUnit → P F α) (Q : α → sProp 𝕄) :
    iprop(records m ρ K ∗ rowPts c c (ShareLeaves.leaf 4 fullShare (ix d)) (amaxAll m ρ) ∗ rowAny (fwd c (d + 1)) c
        ∗ Owes c (O + dueMax d c) ∗ tokMax c d)
      ⊢ iprop((cred (tallyAt (cell c (asnd (ix d))) 0 Na) ∗ Owes c O -∗ WP c (k ⟨⟩) Q) -∗ WP c (sendMax c d >>= k) Q) := by
  rw [sendMax_eq]
  exact wp_sendMaxTo m ρ K c (devA c d) d (devA_eq c d hd) hd O k Q

theorem wp_recvMax (c : Dev nD) (d : ℕ) (hd : d < 15) {α : Type} (k : PUnit → P F α) (Q : α → sProp 𝕄) :
    iprop(records m ρ K ∗ cred (tallyAt (cell c (arcv (ix d))) 0 Na) ∗ Owes c 0 ∗ atPos ER (cell c (arcv (ix d))) 0 ∅ 0)
      ⊢ iprop((Owes c 0 ∗ At c (arcv (ix d)) 1 ∗ rowPts c (back c (d + 1)) fullShare (amaxAll m ρ) -∗ WP c (k ⟨⟩) Q)
        -∗ WP c (recvMax c d >>= k) Q) := by
  rw [show rowPts c (back c (d + 1)) fullShare (amaxAll m ρ) = pay m ρ c (arcv (ix d)) 0 .cw from by
    rw [← ix_val d hd]; rfl]
  simp only [recvMax, Prog.lift, Prog.bind_op, Prog.bind_ret]
  refine wp_round m ρ K c (arcv (ix d)) 0 0 20 0 (fun T => ?_)
    (duty_arcv _ (ix_ne d hd)) (by decide) (Nat.le_refl _) (Above.zero 20) k Q
  exact wpE_waitDma2_eq 𝒱₀ (c : Thread nD τ) none Set.univ T

theorem wp_sentMax (c : Dev nD) (d : ℕ) (hd : d < 15) {α : Type} (k : PUnit → P F α) (Q : α → sProp 𝕄) :
    iprop(records m ρ K ∗ cred (tallyAt (cell c (asnd (ix d))) 0 Na) ∗ Owes c 0 ∗ atPos ER (cell c (asnd (ix d))) 0 ∅ 0)
      ⊢ iprop((Owes c 0 ∗ At c (asnd (ix d)) 1 ∗ rowPts c c (ShareLeaves.leaf 4 fullShare (ix d)) (amaxAll m ρ) -∗ WP c (k ⟨⟩) Q)
        -∗ WP c (sentMax c d >>= k) Q) := by
  simp only [sentMax, Prog.lift, Prog.bind_op, Prog.bind_ret]
  refine wp_round m ρ K c (asnd (ix d)) 0 0 20 0 (fun T => ?_)
    (duty_asnd _ (ix_ne d hd)) (by decide) (Nat.zero_le 20) (Above.zero 20) k Q
  exact wpE_waitDma2_eq 𝒱₀ (c : Thread nD τ) none Set.univ T

end Rules

end Cert.Ring

end
-- ==== Proof.Step.lean ====
/-
# 01_k — a step of the ring

What a device holds before step `s` of a direction, and that a step leads to what it holds before step `s + 1`.
-/
module

public import proofs.«01_k».proof.Proof.Dma

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem div_add_three (s : ℕ) : (s + 3) / 3 = s / 3 + 1 := Nat.add_div_right s (by decide)

/-- Where a device is at its three receive cells of a direction, the one of step `s` first; and at its three send cells. -/
def PosR (D : Dir) (c : Dev nD) (s : ℕ) : sProp 𝕄 :=
  iprop(At (F := F) c (rcv D (sl (s + 1))) (s / 3) ∗ At (F := F) c (rcv D (sl (s + 2))) ((s + 1) / 3) ∗ At (F := F) c (rcv D (sl (s + 3))) ((s + 2) / 3))
def PosS (D : Dir) (c : Dev nD) (s : ℕ) : sProp 𝕄 :=
  iprop(At (F := F) c (snd D (sl s)) (s / 3) ∗ At (F := F) c (snd D (sl (s + 1))) ((s + 1) / 3) ∗ At (F := F) c (snd D (sl (s + 2))) ((s + 2) / 3))
/-- The tokens of the steps from `s` on, and the credit of their landings. -/
def Toks (D : Dir) (c : Dev nD) (s : ℕ) : sProp 𝕄 := bigSep (Finset.Ico s 15) fun t => tok (F := F) D c t
def Crs (D : Dir) (c : Dev nD) (s : ℕ) : sProp 𝕄 := bigSep (Finset.Ico s 15) fun t => (cred (tallyAt (cell c (rcv D (sl (t + 1)))) t N) : sProp 𝕄)
/-- The row that step `s` brings a device for good, and those of the steps before `s`. -/
def got (D : Dir) (c : Dev nD) (s : ℕ) : sProp 𝕄 := match D with
  | .cw => rowAny (F := F) (back c (s + 1)) c
  | .ccw => iprop(emp)
def Got (D : Dir) (c : Dev nD) (s : ℕ) : sProp 𝕄 := bigSep (Finset.range s) fun t => got (F := F) D c t

/-- What a device owes before step `s`. -/
def Owe (c : Dev nD) (s : ℕ) : CellTallies nD τ sig ℕ := Omax c 0 + Oring c s

theorem Owe_step (c : Dev nD) (s : ℕ) (h : s < 15) : Owe c s = Owe c (s + 1) + due .ccw s c + due .cw s c := by
  unfold Owe; rw [Oring_step c s h, add_assoc, add_assoc, add_assoc]
theorem above_Owe (c : Dev nD) (s b : ℕ) (h : b < 2 + s) (h' : b < 20) : Above b (Owe c s) := (above_max c 0 b h').add (above_ring c s b h)

omit [FloatOps F] in
theorem freed_pack (c : Dev nD) (D : Dir) (s : ℕ) (h : s < 14) :
    iprop(slotAny (F := F) c D (sl (s + 2)) ∗ reached ER (cell c (rcv D (sl (s + 2)))) ((s + 1) / 3)) ⊢ freed (F := F) c D s := by
  unfold freed; rw [if_pos h]
omit [FloatOps F] in
theorem freed_end (c : Dev nD) (D : Dir) : (iprop(emp) : sProp 𝕄) ⊢ freed (F := F) c D 14 := by
  unfold freed; rw [if_neg (by decide)]
omit [FloatOps F] in
theorem freed_right (c : Dev nD) (D : Dir) (s : ℕ) (h : s < 14) : freed (F := F) (frm D c) (opp D) s ⊢ Right (F := F) (opp D) c (s + 1) := by
  unfold freed Right; rw [if_pos h, dst_opp]

omit [FloatOps F] in
theorem passed_step (D : Dir) (c : Dev nD) (s : ℕ) (h : s < 15) :
    passed (F := F) D c s ⊢ iprop(got (F := F) D c s ∗ passed (F := F) D (dst D c) (s + 1)) := by
  cases D
  · show bundle (F := F) (back c (s + 1)) (s + 1) ⊢ iprop(rowAny (F := F) (back c (s + 1)) c ∗ bundle (F := F) (back (nxt c) (s + 1 + 1)) (s + 1 + 1))
    rw [back_nxt]
    unfold bundle
    rw [Ico_one (s + 1) 16 (by omega), fwd_back]
  · show (iprop(emp) : sProp 𝕄) ⊢ iprop(emp ∗ emp)
    iintro -
    isplitl
    · iempintro
    · iempintro

omit [FloatOps F] in
theorem range_top (n : ℕ) (Φ : ℕ → sProp 𝕄) : bigSep (Finset.range (n + 1)) Φ = iprop(Φ n ∗ bigSep (Finset.range n) Φ) := by
  rw [Finset.range_add_one, bigSep_insert Finset.notMem_range_self]; rfl

section Step
variable (K : Dev nD × CK → ℕ)

/-- What sending step `s` of a direction takes. -/
def Sendable (D : Dir) (c : Dev nD) (s : ℕ) : sProp 𝕄 :=
  iprop(slotPts c D (sl s) (sum m ρ D c s) ∗ Right (F := F) D c s ∗ passed (F := F) D (dst D c) s ∗ Toks (F := F) D c s ∗ freed (F := F) c (opp D) s
    ∗ reached ER (cell c (snd D (sl s))) (s / 3))

theorem send_dir (c n : Dev nD) (D : Dir) (s : ℕ) (hn : n = dst D c) (hs : s < 15) (O : CellTallies nD τ sig ℕ) {α : Type} (k : PUnit → P F α) (Q : α → sProp 𝕄) :
    iprop(records m ρ K ∗ Sendable m ρ D c s ∗ Owes c (O + due D s c))
      ⊢ iprop((cred (tallyAt (cell c (snd D (sl s))) 0 N) ∗ Toks (F := F) D c (s + 1) ∗ Owes c O -∗ WP c (k ⟨⟩) Q)
        -∗ WP c (enq D n (sl s) (sl (s + 1)) >>= k) Q) := by
  unfold Sendable Toks
  rw [Ico_one s 15 hs]
  iintro ⟨#HR, ⟨Hs, Hr, Hp, ⟨Ht, HT⟩, Hf, #Hq⟩, HO⟩ Hk
  iapply (wp_enq m ρ K c n D s hn hs _ rfl O k Q) $$ [Hs Hr Hp Ht Hf HO]
  · isplitr; · iexact HR
    isplitl [Hs]; · iexact Hs
    isplitl [Hr]; · iexact Hr
    isplitl [Hp Hf]
    · isplitl [Hf] <;> iassumption
    isplitl [HO]; · iexact HO
    isplitl [Ht]; · iexact Ht
    iexact Hq
  iintro ⟨Hc, HO⟩
  iapply Hk
  isplitl [Hc]; · iexact Hc
  isplitl [HT]; · iexact HT
  iexact HO

theorem recv_dir (c : Dev nD) (D : Dir) (s : ℕ) (hs : s < 15) (O : CellTallies nD τ sig ℕ) (hO : Above (2 + s) O) {α : Type} (k : PUnit → P F α) (Q : α → sProp 𝕄) :
    iprop(records m ρ K ∗ (PosR (F := F) D c s ∗ Crs (F := F) D c s ∗ Got (F := F) D c s) ∗ Owes c O)
      ⊢ iprop((slotPts c D (sl (s + 1)) (sum m ρ D (frm D c) s) ∗ freed (F := F) (frm D c) (opp D) s ∗ passed (F := F) D (dst D c) (s + 1)
            ∗ (PosR (F := F) D c (s + 1) ∗ Crs (F := F) D c (s + 1) ∗ Got (F := F) D c (s + 1)) ∗ Owes c O -∗ WP c (k ⟨⟩) Q)
        -∗ WP c (waitOn (sem3 (recvA D) (sl (s + 1))) D (sl s) (sl (s + 1)) >>= k) Q) := by
  unfold PosR Crs Got
  rw [Ico_one s 15 hs, range_top]
  iintro ⟨#HR, ⟨⟨Ha, Hb, Hc⟩, ⟨Hcr, HC⟩, HG⟩, HO⟩ Hk
  unfold At
  icases Ha with ⟨Ha, -⟩
  iapply (wp_recv m ρ K c D s hs O hO k Q) $$ [Ha Hcr HO]
  · isplitr; · iexact HR
    isplitl [Hcr]; · iexact Hcr
    isplitl [HO]; · iexact HO
    iexact Ha
  iintro ⟨HO, Ha, HP⟩
  unfold rcvPay
  icases HP with ⟨Hs, Hf, Hp⟩
  ihave Hp := (passed_step (F := F) D c s hs) $$ Hp
  icases Hp with ⟨Hg, Hp⟩
  iapply Hk
  isplitl [Hs]; · iexact Hs
  isplitl [Hf]; · iexact Hf
  isplitl [Hp]; · iexact Hp
  isplitr [HO]
  · isplitl [Ha Hb Hc]
    · isplitl [Hb]; · iexact Hb
      isplitl [Hc]; · iexact Hc
      rw [show s + 1 + 3 = (s + 1) + 3 from rfl, sl_add_three (s + 1), show s + 1 + 2 = s + 3 from rfl, div_add_three]
      unfold At
      iexact Ha
    isplitl [HC]; · iexact HC
    isplitl [Hg]; · iexact Hg
    iexact HG
  iexact HO

theorem sent_dir (c : Dev nD) (D : Dir) (s : ℕ) (hs : s < 15) (O : CellTallies nD τ sig ℕ) (hO : Above 0 O) {α : Type} (k : PUnit → P F α) (Q : α → sProp 𝕄) :
    iprop(records m ρ K ∗ cred (tallyAt (cell c (snd D (sl s))) 0 N) ∗ PosS (F := F) D c s ∗ Owes c O)
      ⊢ iprop((slotAny (F := F) c D (sl s) ∗ PosS (F := F) D c (s + 1) ∗ Owes c O -∗ WP c (k ⟨⟩) Q)
        -∗ WP c (waitOn (sem3 (sendA D) (sl s)) D (sl (s + 1)) (sl s) >>= k) Q) := by
  unfold PosS
  iintro ⟨#HR, Hcr, ⟨Ha, Hb, Hc⟩, HO⟩ Hk
  unfold At
  icases Ha with ⟨Ha, -⟩
  iapply (wp_sent m ρ K c D s hs O hO k Q) $$ [Ha Hcr HO]
  · isplitr; · iexact HR
    isplitl [Hcr]; · iexact Hcr
    isplitl [HO]; · iexact HO
    iexact Ha
  iintro ⟨HO, Ha, Hs⟩
  iapply Hk
  isplitl [Hs]; · iexact Hs
  isplitr [HO]
  · isplitl [Hb]; · iexact Hb
    isplitl [Hc]; · iexact Hc
    rw [show s + 1 + 2 = s + 3 from rfl, sl_add_three s, div_add_three]
    unfold At
    iexact Ha
  iexact HO

/-- What a device holds before step `s` of a direction. -/
def Ring (D : Dir) (c : Dev nD) (s : ℕ) : sProp 𝕄 :=
  iprop(slotPts c D (sl s) (sum m ρ D c s) ∗ slotAny (F := F) c D (sl (s + 2)) ∗ Right (F := F) D c s ∗ passed (F := F) D (dst D c) s ∗ Toks (F := F) D c s
    ∗ PosS (F := F) D c s ∗ PosR (F := F) D c s ∗ Crs (F := F) D c s ∗ Got (F := F) D c s)

/-- What a device holds before step `s`. -/
def St (c : Dev nD) (s : ℕ) : sProp 𝕄 :=
  iprop(Ring m ρ .cw c s ∗ Ring m ρ .ccw c s ∗ Owes c (Owe c s) ∗ xPts m ρ c ∗ wPts m ρ c)

omit [FloatOps F] in
/-- The marks of the rounds a device is at. -/
theorem marks (D : Dir) (c : Dev nD) (s : ℕ) :
    iprop(PosS (F := F) D c s ∗ PosR (F := F) D c s) ⊢ iprop((reached ER (cell c (snd D (sl s))) (s / 3) ∗ reached ER (cell c (rcv D (sl (s + 2)))) ((s + 1) / 3))
      ∗ PosS (F := F) D c s ∗ PosR (F := F) D c s) := by
  unfold PosS PosR At
  iintro ⟨⟨⟨H1, #Hq⟩, H2⟩, ⟨H3, ⟨H4, #Hr⟩, H5⟩⟩
  isplitr
  · isplitr; · iexact Hq
    iexact Hr
  isplitl [H1 H2]
  · isplitl [H1]
    · isplitl [H1]; · iexact H1
      iexact Hq
    iexact H2
  isplitl [H3]; · iexact H3
  isplitl [H4]
  · isplitl [H4]; · iexact H4
    iexact Hr
  iexact H5

set_option maxHeartbeats 1000000 in
theorem wp_step (c : Dev nD) (s : ℕ) (hs : s < 14) {α : Type} (k : PUnit → P F α) (Q : α → sProp 𝕄) :
    iprop(records m ρ K ∗ St m ρ c s) ⊢ iprop((St m ρ c (s + 1) -∗ WP c (k ⟨⟩) Q) -∗ WP c (step c s >>= k) Q) := by
  have hs' : s < 15 := by omega
  unfold St Ring step
  rw [Owe_step c s hs']
  simp only [bind_assoc]
  iintro ⟨#HR, ⟨HsA, HfA, HrA, HpA, HtA, HqA, HwA, HcA, HgA⟩, ⟨HsB, HfB, HrB, HpB, HtB, HqB, HwB, HcB, HgB⟩, HO, Hx, Hw⟩ Hk
  ihave HA := (marks (F := F) .cw c s) $$ [HqA HwA]
  · isplitl [HqA] <;> iassumption
  icases HA with ⟨⟨#HmA, #HnA⟩, HqA, HwA⟩
  ihave HB := (marks (F := F) .ccw c s) $$ [HqB HwB]
  · isplitl [HqB] <;> iassumption
  icases HB with ⟨⟨#HmB, #HnB⟩, HqB, HwB⟩
  ihave HfA := (freed_pack (F := F) c .cw s hs) $$ [HfA]
  · isplitl [HfA]; · iexact HfA
    iexact HnA
  ihave HfB := (freed_pack (F := F) c .ccw s hs) $$ [HfB]
  · isplitl [HfB]; · iexact HfB
    iexact HnB
  iapply (send_dir m ρ K c (devR c s) .cw s (dev_eq .cw c s) hs' (Owe c (s + 1) + due .ccw s c)) $$ [HsA HrA HpA HtA HfB HO]
  · isplitr; · iexact HR
    isplitr [HO]
    · unfold Sendable
      isplitl [HsA]; · iexact HsA
      isplitl [HrA]; · iexact HrA
      isplitl [HpA]; · iexact HpA
      isplitl [HtA]; · iexact HtA
      isplitl [HfB]; · iexact HfB
      iexact HmA
    iexact HO
  iintro ⟨HdA, HtA, HO⟩
  iapply (send_dir m ρ K c (devL c s) .ccw s (dev_eq .ccw c s) hs' (Owe c (s + 1))) $$ [HsB HrB HpB HtB HfA HO]
  · isplitr; · iexact HR
    isplitr [HO]
    · unfold Sendable
      isplitl [HsB]; · iexact HsB
      isplitl [HrB]; · iexact HrB
      isplitl [HpB]; · iexact HpB
      isplitl [HtB]; · iexact HtB
      isplitl [HfA]; · iexact HfA
      iexact HmB
    iexact HO
  iintro ⟨HdB, HtB, HO⟩
  iapply (wp_partial m ρ c .cw (s + 1)) $$ [Hx Hw]
  · isplitl [Hx] <;> iassumption
  iintro ⟨Hx, Hw⟩
  iapply (wp_partial m ρ c .ccw (s + 1)) $$ [Hx Hw]
  · isplitl [Hx] <;> iassumption
  iintro ⟨Hx, Hw⟩
  iapply (recv_dir m ρ K c .cw s hs' (Owe c (s + 1)) (above_Owe c (s + 1) (2 + s) (by omega) (by omega))) $$ [HwA HcA HgA HO]
  · isplitr; · iexact HR
    isplitr [HO]
    · isplitl [HwA]; · iexact HwA
      isplitl [HcA]; · iexact HcA
      iexact HgA
    iexact HO
  iintro ⟨HsA, HfA, HpA, ⟨HwA, HcA, HgA⟩, HO⟩
  iapply (recv_dir m ρ K c .ccw s hs' (Owe c (s + 1)) (above_Owe c (s + 1) (2 + s) (by omega) (by omega))) $$ [HwB HcB HgB HO]
  · isplitr; · iexact HR
    isplitr [HO]
    · isplitl [HwB]; · iexact HwB
      isplitl [HcB]; · iexact HcB
      iexact HgB
    iexact HO
  iintro ⟨HsB, HfB, HpB, ⟨HwB, HcB, HgB⟩, HO⟩
  iapply (wp_accum c .cw (sl (s + 1))) $$ HsA
  iintro HsA
  iapply (wp_accum c .ccw (sl (s + 1))) $$ HsB
  iintro HsB
  iapply (sent_dir m ρ K c .cw s hs' (Owe c (s + 1)) (above_Owe c (s + 1) 0 (by omega) (by decide))) $$ [HdA HqA HO]
  · isplitr; · iexact HR
    isplitl [HdA]; · iexact HdA
    isplitl [HqA]; · iexact HqA
    iexact HO
  iintro ⟨HaA, HqA, HO⟩
  iapply (sent_dir m ρ K c .ccw s hs' (Owe c (s + 1)) (above_Owe c (s + 1) 0 (by omega) (by decide))) $$ [HdB HqB HO]
  · isplitr; · iexact HR
    isplitl [HdB]; · iexact HdB
    isplitl [HqB]; · iexact HqB
    iexact HO
  iintro ⟨HaB, HqB, HO⟩
  ihave HrB := (freed_right (F := F) c .cw s hs) $$ HfA
  ihave HrA := (freed_right (F := F) c .ccw s hs) $$ HfB
  iapply Hk
  isplitl [HsA HaA HrA HpA HtA HqA HwA HcA HgA]
  · isplitl [HsA]; · iexact HsA
    isplitl [HaA]; · rw [show s + 1 + 2 = s + 3 from rfl, sl_add_three s]; iexact HaA
    isplitl [HrA]; · iexact HrA
    isplitl [HpA]; · iexact HpA
    isplitl [HtA]; · iexact HtA
    isplitl [HqA]; · iexact HqA
    isplitl [HwA]; · iexact HwA
    isplitl [HcA]; · iexact HcA
    iexact HgA
  isplitl [HsB HaB HrB HpB HtB HqB HwB HcB HgB]
  · isplitl [HsB]; · iexact HsB
    isplitl [HaB]; · rw [show s + 1 + 2 = s + 3 from rfl, sl_add_three s]; iexact HaB
    isplitl [HrB]; · iexact HrB
    isplitl [HpB]; · iexact HpB
    isplitl [HtB]; · iexact HtB
    isplitl [HqB]; · iexact HqB
    isplitl [HwB]; · iexact HwB
    isplitl [HcB]; · iexact HcB
    iexact HgB
  isplitl [HO]; · iexact HO
  isplitl [Hx] <;> iassumption

end Step

end Cert.Ring

end
-- ==== Proof.Finish.lean ====
/-
# 01_k — the last step and the exchange of the maxima
-/
module

public import proofs.«01_k».proof.Proof.Step

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Runs of numbers -/

/-- A stretch of a program's pieces keeps what each of them steps on. -/
theorem wp_each (c : Dev nD) (R : sProp 𝕄) [BI.Persistent R] (f : ℕ → P F PUnit) (I : ℕ → sProp 𝕄) (n : ℕ)
    (h : ∀ d < n, ∀ {α : Type} (k : PUnit → P F α) (Q : α → sProp 𝕄), iprop(R ∗ I d) ⊢ iprop((I (d + 1) -∗ WP c (k ⟨⟩) Q) -∗ WP c (f d >>= k) Q)) :
    ∀ (l a : ℕ), a + l ≤ n → ∀ {α : Type} (k : PUnit → P F α) (Q : α → sProp 𝕄),
      iprop(R ∗ I a) ⊢ iprop((I (a + l) -∗ WP c (k ⟨⟩) Q) -∗ WP c (each f (List.range' a l) >>= k) Q)
  | 0, a, _, α, k, Q => by
    show iprop(R ∗ I a) ⊢ iprop((I a -∗ WP c (k ⟨⟩) Q) -∗ WP c (k ⟨⟩) Q)
    iintro ⟨-, HI⟩ Hk
    iapply Hk; iexact HI
  | l + 1, a, ha, α, k, Q => by
    show iprop(R ∗ I a) ⊢ iprop((I (a + (l + 1)) -∗ WP c (k ⟨⟩) Q) -∗ WP c ((f a >>= fun _ => each f (List.range' (a + 1) l)) >>= k) Q)
    rw [bind_assoc, show a + (l + 1) = (a + 1) + l by omega]
    iintro ⟨#HR, HI⟩ Hk
    iapply (h a (by omega) (fun _ => each f (List.range' (a + 1) l) >>= k) Q) $$ [HI]
    · isplitr; · iexact HR
      iexact HI
    iintro HI
    iapply (wp_each c R f I n h l (a + 1) (by omega) k Q) $$ [HI]
    · isplitr; · iexact HR
      iexact HI
    iexact Hk

omit [FloatOps F] in
theorem bigSep_ix (Φ : Fin 16 → sProp 𝕄) : bigSep Finset.univ Φ = iprop(Φ 0 ∗ bigSep (Finset.range 15) fun t => Φ (ix t)) := by
  have h : (Finset.univ : Finset (Fin 16)) = insert 0 ((Finset.range 15).image ix) := by decide
  rw [h, bigSep_insert (by decide), bigSep_image_of_injOn]
  · rfl
  · intro a ha b hb hab
    have ha := Finset.mem_range.mp ha; have hb := Finset.mem_range.mp hb
    have h := congrArg Fin.val hab
    rw [ix_val a ha, ix_val b hb] at h; omega

omit [FloatOps F] in
theorem bigSep_rev (Φ : ℕ → sProp 𝕄) : bigSep (Finset.range 15) Φ = bigSep (Finset.Ico 0 15) fun t => Φ (14 - t) := by
  have h : Finset.range 15 = (Finset.Ico 0 15).image fun t => 14 - t := by decide
  rw [h, bigSep_image_of_injOn]
  intro a ha b hb hab
  have ha := Finset.mem_Ico.mp ha; have hb := Finset.mem_Ico.mp hb
  have hab : 14 - a = 14 - b := hab
  omega
omit [FloatOps F] in
theorem bigSep_shift (Φ : ℕ → sProp 𝕄) : (bigSep (Finset.range 15) fun t => Φ (t + 1)) = bigSep (Finset.Ico 1 16) Φ := by
  have h : Finset.Ico 1 16 = (Finset.range 15).image fun t => t + 1 := by decide
  rw [h, bigSep_image_of_injOn]
  intro a ha b hb hab
  exact Nat.succ.inj hab

theorem fwd_far (c : Dev nD) (t : ℕ) (h : t < 15) : back c (14 - t + 1) = fwd c (t + 1) := by
  have := dev_lt c; apply Fin.ext; rw [back_val, fwd_val]; omega

section Max
variable (K : Dev nD × CK → ℕ)

/-! ## The last step -/

/-- What a device holds of a direction after the last step. -/
def Done (D : Dir) (c : Dev nD) : sProp 𝕄 :=
  iprop((slotAny (F := F) c D 0 ∗ slotAny (F := F) c D 1 ∗ slotAny (F := F) c D 2) ∗ PosS (F := F) D c 15 ∗ PosR (F := F) D c 15 ∗ Got (F := F) D c 15)

set_option maxHeartbeats 1000000 in
theorem wp_last (c : Dev nD) (f : (cc0_stg2_0 : Ref sig .tc).ty.Contents (Elt F)) {α : Type} (k : PUnit → P F α) (Q : α → sProp 𝕄) :
    iprop(records m ρ K ∗ St m ρ c 14 ∗ oPts c f)
      ⊢ iprop((Done (F := F) .cw c ∗ Done (F := F) .ccw c ∗ Owes c (Omax c 0) ∗ xPts m ρ c ∗ wPts m ρ c ∗ oPts c (yAt m ρ c) -∗ WP c (k ⟨⟩) Q)
        -∗ WP c (lastStep c >>= k) Q) := by
  have hs' : 14 < 15 := by decide
  unfold St Ring lastStep Done
  rw [Owe_step c 14 hs']
  simp only [bind_assoc]
  iintro ⟨#HR, ⟨⟨HsA, HfA, HrA, HpA, HtA, HqA, HwA, HcA, HgA⟩, ⟨HsB, HfB, HrB, HpB, HtB, HqB, HwB, HcB, HgB⟩, HO, Hx, Hw⟩, Hout⟩ Hk
  ihave HA := (marks (F := F) .cw c 14) $$ [HqA HwA]
  · isplitl [HqA] <;> iassumption
  icases HA with ⟨⟨#HmA, -⟩, HqA, HwA⟩
  ihave HB := (marks (F := F) .ccw c 14) $$ [HqB HwB]
  · isplitl [HqB] <;> iassumption
  icases HB with ⟨⟨#HmB, -⟩, HqB, HwB⟩
  iapply (send_dir m ρ K c (devR c 14) .cw 14 (dev_eq .cw c 14) hs' (Owe c 15 + due .ccw 14 c)) $$ [HsA HrA HpA HtA HO]
  · isplitr; · iexact HR
    isplitr [HO]
    · unfold Sendable
      isplitl [HsA]; · iexact HsA
      isplitl [HrA]; · iexact HrA
      isplitl [HpA]; · iexact HpA
      isplitl [HtA]; · iexact HtA
      isplitr
      · iapply (freed_end (F := F) c .ccw); iempintro
      iexact HmA
    iexact HO
  iintro ⟨HdA, -, HO⟩
  iapply (send_dir m ρ K c (devL c 14) .ccw 14 (dev_eq .ccw c 14) hs' (Owe c 15)) $$ [HsB HrB HpB HtB HO]
  · isplitr; · iexact HR
    isplitr [HO]
    · unfold Sendable
      isplitl [HsB]; · iexact HsB
      isplitl [HrB]; · iexact HrB
      isplitl [HpB]; · iexact HpB
      isplitl [HtB]; · iexact HtB
      isplitr
      · iapply (freed_end (F := F) c .cw); iempintro
      iexact HmB
    iexact HO
  iintro ⟨HdB, -, HO⟩
  iapply (wp_partial m ρ c .cw 15) $$ [Hx Hw]
  · isplitl [Hx] <;> iassumption
  iintro ⟨Hx, Hw⟩
  iapply (wp_partial m ρ c .ccw 15) $$ [Hx Hw]
  · isplitl [Hx] <;> iassumption
  iintro ⟨Hx, Hw⟩
  iapply (recv_dir m ρ K c .cw 14 hs' (Owe c 15) (above_Owe c 15 (2 + 14) (by decide) (by decide))) $$ [HwA HcA HgA HO]
  · isplitr; · iexact HR
    isplitr [HO]
    · isplitl [HwA]; · iexact HwA
      isplitl [HcA]; · iexact HcA
      iexact HgA
    iexact HO
  iintro ⟨HsA, -, -, ⟨HwA, -, HgA⟩, HO⟩
  iapply (recv_dir m ρ K c .ccw 14 hs' (Owe c 15) (above_Owe c 15 (2 + 14) (by decide) (by decide))) $$ [HwB HcB HgB HO]
  · isplitr; · iexact HR
    isplitr [HO]
    · isplitl [HwB]; · iexact HwB
      isplitl [HcB]; · iexact HcB
      iexact HgB
    iexact HO
  iintro ⟨HsB, -, -, ⟨HwB, -, HgB⟩, HO⟩
  iapply (wp_finish c .cw (sl 15)) $$ [HsA Hout]
  · isplitl [HsA] <;> iassumption
  iintro ⟨HsA, Hout⟩
  iapply (wp_finish c .ccw (sl 15)) $$ [HsB Hout]
  · isplitl [HsB] <;> iassumption
  iintro ⟨HsB, Hout⟩
  rw [halves_beside]
  iapply (sent_dir m ρ K c .cw 14 hs' (Owe c 15) (above_Owe c 15 0 (by decide) (by decide))) $$ [HdA HqA HO]
  · isplitr; · iexact HR
    isplitl [HdA]; · iexact HdA
    isplitl [HqA]; · iexact HqA
    iexact HO
  iintro ⟨HaA, HqA, HO⟩
  iapply (sent_dir m ρ K c .ccw 14 hs' (Owe c 15) (above_Owe c 15 0 (by decide) (by decide))) $$ [HdB HqB HO]
  · isplitr; · iexact HR
    isplitl [HdB]; · iexact HdB
    isplitl [HqB]; · iexact HqB
    iexact HO
  iintro ⟨HaB, HqB, HO⟩
  ihave HsA := (slotPts_any c .cw (sl 15) _) $$ HsA
  ihave HsB := (slotPts_any c .ccw (sl 15) _) $$ HsB
  iapply Hk
  isplitl [HsA HfA HaA HqA HwA HgA]
  · isplitl [HsA HfA HaA]
    · isplitl [HsA]; · iexact HsA
      isplitl [HfA]; · iexact HfA
      iexact HaA
    isplitl [HqA]; · iexact HqA
    isplitl [HwA]; · iexact HwA
    iexact HgA
  isplitl [HsB HfB HaB HqB HwB HgB]
  · isplitl [HsB HfB HaB]
    · isplitl [HsB]; · iexact HsB
      isplitl [HfB]; · iexact HfB
      iexact HaB
    isplitl [HqB]; · iexact HqB
    isplitl [HwB]; · iexact HwB
    iexact HgB
  isplitl [HO]
  · unfold Owe; rw [Oring_end, add_zero]; iexact HO
  isplitl [Hx]; · iexact Hx
  isplitl [Hw]; · iexact Hw
  iexact Hout

/-! ## The maxima -/

theorem hz : (![0, 0] : Fin 2 → Nat) = fun _ => 0 := funext fun a => by fin_cases a <;> rfl
theorem read_out (f : (cc0_stg2_0 : Ref sig .tc).ty.Contents (Elt F)) : oM.view.readAt (Elt F) allR.toLoadRect f = f :=
  Memref.readAt_unit_zero (Elt F) cc0_stg2_0 hz _ f
theorem read_max (f : (cc0_scratch2 : Ref sig .tc).ty.Contents (Elt F)) : aM.view.readAt (Elt F) amaxAllR.toLoadRect f = f :=
  Memref.readAt_unit_zero (Elt F) cc0_scratch2 hz _ f
theorem write_out (f w : (cc0_stg2_0 : Ref sig .tc).ty.Contents (Elt F)) :
    (oM.access allR).write (Elt F) f w Finset.univ = w :=
  Memref.write_access_unit_zero_univ (Elt F) cc0_stg2_0 hz _ f w

/-- The row stored through the offsets `o`. -/
def storeMaxAt (o : Fin 2 → ℕ) (h : ∀ a, o a + S1x128.size a ≤ S16x128.size a) : P F PUnit := do
  let v ← Prog.lift (.load oM allR.toLoadRect (View.loadsAt_vmem h_S256x8192))
  let _ : Vec F S1x128 .f32 ← Prog.lift (.load aM (Rect.unit (s := S16x128) o S1x128.size h).toLoadRect (View.loadsAt_vmem h_S1x128))
  Prog.lift (.store aM (Rect.unit (s := S16x128) o S1x128.size h) (k0_pay71 v) Finset.univ (View.stores_vmem_bits_univ h_S1x128 rfl) (.inl rfl))
theorem storeMax_eq (c : Dev nD) : storeMax (F := F) c = storeMaxAt (k0_off3 c) (k0_off3_inb c) := rfl

theorem row_sub_load (c : Dev nD) : aM.view.setOn (rowR c).toLoadRect.set ⊆ (rowM c).view.set := by
  rw [show (rowM c).view.set = aM.view.setOn (rowR c).toLoadRect.set from View.set_slice _ _]
theorem row_sub_store (c : Dev nD) : (aM.access (rowR c)).setOn Finset.univ ⊆ (rowM c).view.set := by
  rw [View.setOn_univ]

theorem wp_storeMaxAt (c : Dev nD) (o : Fin 2 → ℕ) (ho : o = k0_off4 c) (h : ∀ a, o a + S1x128.size a ≤ S16x128.size a)
    {α : Type} (k : PUnit → P F α) (Q : α → sProp 𝕄) :
    iprop(oPts c (yAt m ρ c) ∗ rowAny (F := F) c c)
      ⊢ iprop((oPts c (yAt m ρ c) ∗ rowPts c c fullShare (amaxAll m ρ) -∗ WP c (k ⟨⟩) Q) -∗ WP c (storeMaxAt o h >>= k) Q) := by
  subst ho
  unfold oPts rowAny rowPts storeMaxAt
  simp only [Prog.lift, Prog.bind_op, Prog.bind_ret]
  iintro ⟨Ho, ⟨%g, Hr⟩⟩ Hk
  iapply (wp_load 𝒱₀ (c : Thread nD τ) none Set.univ (m := oM) (r := allR.toLoadRect) (S := Finset.univ) (Finset.subset_univ _)) $$ Ho
  iintro Ho
  rw [read_out]
  iapply (wp_load 𝒱₀ (c : Thread nD τ) none Set.univ (m := aM) (r := (rowR c).toLoadRect) (S := (rowM c).view.set) (row_sub_load c)) $$ Hr
  iintro Hr
  iapply (wp_store 𝒱₀ (c : Thread nD τ) none Set.univ (m := aM) (r := rowR c) (Mk := Finset.univ) (S := (rowM c).view.set) (row_sub_store c)) $$ Hr
  iintro Hr
  iapply Hk
  isplitl [Ho]; · iexact Ho
  have e : ((rowM c).view.loc (c : Thread nD τ) ↦[(rowM c).view.set]{fullShare} ((rowM c).view.write (Elt F) g (maxv m ρ c) Finset.univ) : sProp 𝕄)
      = ((rowM c).view.loc (c : Thread nD τ) ↦[(rowM c).view.set]{fullShare} amaxAll m ρ) := by
    rw [← row_read m ρ c]
    exact pointsTo_congr (write_read_on (F := F) (rowM c).view g (amaxAll m ρ))
  iapply (Entails.of_eq e)
  iexact Hr

theorem wp_storeMax (c : Dev nD) {α : Type} (k : PUnit → P F α) (Q : α → sProp 𝕄) :
    iprop(oPts c (yAt m ρ c) ∗ rowAny (F := F) c c)
      ⊢ iprop((oPts c (yAt m ρ c) ∗ rowPts c c fullShare (amaxAll m ρ) -∗ WP c (k ⟨⟩) Q) -∗ WP c (storeMax c >>= k) Q) := by
  rw [storeMax_eq]
  exact wp_storeMaxAt m ρ c _ ((k0_off3_eq c).trans (k0_off4_eq c).symm) _ k Q

theorem wp_epilogue (c : Dev nD) (Q : PUnit → sProp 𝕄) :
    iprop(((c : Thread nD τ).loc cc0_scratch2 ↦{fullShare} amaxAll m ρ) ∗ oPts c (yAt m ρ c))
      ⊢ iprop((((c : Thread nD τ).loc cc0_scratch2 ↦{fullShare} amaxAll m ρ) ∗ oPts c (outAt m ρ c) -∗ |={Set.univ}=> Q ⟨⟩) -∗ WP c epilogue Q) := by
  unfold oPts epilogue
  simp only [Prog.lift, Prog.bind_op, Prog.bind_ret]
  iintro ⟨Ha, Ho⟩ Hk
  iapply (wp_load 𝒱₀ (c : Thread nD τ) none Set.univ (m := aM) (r := amaxAllR.toLoadRect) (S := Finset.univ) (Finset.subset_univ _)) $$ Ha
  iintro Ha
  rw [read_max]
  iapply (wp_load 𝒱₀ (c : Thread nD τ) none Set.univ (m := oM) (r := allR.toLoadRect) (S := Finset.univ) (Finset.subset_univ _)) $$ Ho
  iintro Ho
  rw [read_out]
  iapply (wp_load 𝒱₀ (c : Thread nD τ) none Set.univ (m := oM) (r := allR.toLoadRect) (S := Finset.univ) (Finset.subset_univ _)) $$ Ho
  iintro Ho
  iapply (wp_store 𝒱₀ (c : Thread nD τ) none Set.univ (m := oM) (r := allR) (Mk := Finset.univ) (S := Finset.univ) (Finset.subset_univ _)) $$ Ho
  iintro Ho
  rw [write_out, wp_ret]
  iapply Hk
  isplitl [Ha]; · iexact Ha
  iexact Ho

/-! ## The copies of the maxima -/

/-- Before copy `d` is sent: the leaves, landing rows and tokens of the copies from `d` on, the credit of those sent. -/
def SendI (c : Dev nD) (d : ℕ) : sProp 𝕄 :=
  iprop((bigSep (Finset.Ico d 15) fun t => iprop(rowPts c c (ShareLeaves.leaf 4 fullShare (ix t)) (amaxAll m ρ) ∗ rowAny (F := F) (fwd c (t + 1)) c ∗ tokMax (F := F) c t))
    ∗ (bigSep (Finset.range d) fun t => (cred (tallyAt (cell c (asnd (ix t))) 0 Na) : sProp 𝕄)) ∗ Owes c (Omax c d))
theorem wp_sends (c : Dev nD) (d : ℕ) (hd : d < 15) {α : Type} (k : PUnit → P F α) (Q : α → sProp 𝕄) :
    iprop(records m ρ K ∗ SendI m ρ c d) ⊢ iprop((SendI m ρ c (d + 1) -∗ WP c (k ⟨⟩) Q) -∗ WP c (sendMax c d >>= k) Q) := by
  unfold SendI
  rw [Ico_one d 15 hd, range_top, Omax_step c d hd]
  iintro ⟨#HR, ⟨⟨Hl, Hr, Ht⟩, HI⟩, HC, HO⟩ Hk
  iapply (wp_sendMax m ρ K c d hd (Omax c (d + 1))) $$ [Hl Hr Ht HO]
  · isplitr; · iexact HR
    isplitl [Hl]; · iexact Hl
    isplitl [Hr]; · iexact Hr
    isplitl [HO]; · iexact HO
    iexact Ht
  iintro ⟨Hc, HO⟩
  iapply Hk
  isplitl [HI]; · iexact HI
  isplitl [Hc HC]
  · isplitl [Hc]; · iexact Hc
    iexact HC
  iexact HO

/-- Before a wait for copy `d`: the credit and places of those from `d` on, what the others brought. -/
def WaitI (c : Dev nD) (kd : ℕ → CK) (X : ℕ → sProp 𝕄) (d : ℕ) : sProp 𝕄 :=
  iprop((bigSep (Finset.Ico d 15) fun t => (cred (tallyAt (cell c (kd t)) 0 Na) : sProp 𝕄))
    ∗ (bigSep (Finset.Ico d 15) fun t => (atPos ER (cell c (kd t)) 0 ∅ 0 : sProp 𝕄))
    ∗ (bigSep (Finset.range d) fun t => (atPos ER (cell c (kd t)) 1 ∅ 0 : sProp 𝕄)) ∗ (bigSep (Finset.range d) X) ∗ Owes c 0)
theorem wp_waits (c : Dev nD) (kd : ℕ → CK) (X : ℕ → sProp 𝕄) (f : ℕ → P F PUnit) (d : ℕ) (hd : d < 15)
    {α : Type} (k : PUnit → P F α) (Q : α → sProp 𝕄)
    (h : iprop(records m ρ K ∗ cred (tallyAt (cell c (kd d)) 0 Na) ∗ Owes c 0 ∗ atPos ER (cell c (kd d)) 0 ∅ 0)
      ⊢ iprop((Owes c 0 ∗ At c (kd d) 1 ∗ X d -∗ WP c (k ⟨⟩) Q) -∗ WP c (f d >>= k) Q)) :
    iprop(records m ρ K ∗ WaitI c kd X d) ⊢ iprop((WaitI c kd X (d + 1) -∗ WP c (k ⟨⟩) Q) -∗ WP c (f d >>= k) Q) := by
  unfold WaitI
  rw [Ico_one d 15 hd, Ico_one d 15 hd, range_top, range_top]
  iintro ⟨#HR, ⟨Hc, HC⟩, ⟨Ha, HA⟩, HB, HX, HO⟩ Hk
  iapply h $$ [Hc Ha HO]
  · isplitr; · iexact HR
    isplitl [Hc]; · iexact Hc
    isplitl [HO]; · iexact HO
    iexact Ha
  unfold At
  iintro ⟨HO, ⟨Ha, -⟩, Hx⟩
  iapply Hk
  isplitl [HC]; · iexact HC
  isplitl [HA]; · iexact HA
  isplitl [Ha HB]
  · isplitl [Ha]; · iexact Ha
    iexact HB
  isplitl [Hx HX]
  · isplitl [Hx]; · iexact Hx
    iexact HX
  iexact HO

theorem copies_eq : copies = List.range' 0 15 := by decide
theorem steps_eq : steps = List.range' 0 14 := by decide

/-- Before the exchange of the maxima. -/
def MaxPre (c : Dev nD) : sProp 𝕄 :=
  iprop(rowPts c c fullShare (amaxAll m ρ) ∗ Got (F := F) .cw c 15 ∗ (bigSep (Finset.Ico 0 15) fun t => tokMax (F := F) c t) ∗ Owes c (Omax c 0)
    ∗ (bigSep (Finset.Ico 0 15) fun t => (cred (tallyAt (cell c (arcv (ix t))) 0 Na) : sProp 𝕄))
    ∗ (bigSep (Finset.Ico 0 15) fun t => (atPos ER (cell c (arcv (ix t))) 0 ∅ 0 : sProp 𝕄))
    ∗ (bigSep (Finset.Ico 0 15) fun t => (atPos ER (cell c (asnd (ix t))) 0 ∅ 0 : sProp 𝕄)))
/-- After it. -/
def MaxPost (c : Dev nD) : sProp 𝕄 :=
  iprop(((c : Thread nD τ).loc cc0_scratch2 ↦{fullShare} amaxAll m ρ) ∗ Owes c 0
    ∗ (bigSep (Finset.range 15) fun t => (atPos ER (cell c (arcv (ix t))) 1 ∅ 0 : sProp 𝕄))
    ∗ (bigSep (Finset.range 15) fun t => (atPos ER (cell c (asnd (ix t))) 1 ∅ 0 : sProp 𝕄)))

theorem leaves_eq (c : Dev nD) : rowPts c c fullShare (amaxAll m ρ)
    = iprop(rowPts c c (ShareLeaves.leaf 4 fullShare 0) (amaxAll m ρ) ∗ bigSep (Finset.range 15) fun t => rowPts c c (ShareLeaves.leaf 4 fullShare (ix t)) (amaxAll m ρ)) := by
  rw [← bigSep_ix (fun i : Fin 16 => rowPts c c (ShareLeaves.leaf 4 fullShare i) (amaxAll m ρ))]
  unfold rowPts
  exact ShareLeaves.pointsTo_leaves _ _ 4 fullShare

omit [FloatOps F] in
theorem got_rows (c : Dev nD) : Got (F := F) .cw c 15 = bigSep (Finset.Ico 0 15) fun t => rowAny (F := F) (fwd c (t + 1)) c := by
  unfold Got
  rw [bigSep_rev]
  exact bigSep_congr fun t ht => by
    show rowAny (F := F) (back c (14 - t + 1)) c = _
    rw [fwd_far c t (Finset.mem_Ico.mp ht).2]

set_option maxHeartbeats 1000000 in
theorem wp_max (c : Dev nD) {α : Type} (k : PUnit → P F α) (Q : α → sProp 𝕄) :
    iprop(records m ρ K ∗ MaxPre m ρ c)
      ⊢ iprop((MaxPost m ρ c -∗ WP c (k ⟨⟩) Q)
        -∗ WP c (each (sendMax c) copies >>= fun _ => each (recvMax c) copies >>= fun _ => each (sentMax c) copies >>= k) Q) := by
  unfold MaxPre MaxPost
  rw [copies_eq]
  iintro ⟨#HR, Hrow, HG, HT, HO, HC, HA, HB⟩ Hk
  ihave Hl := (Entails.of_eq (leaves_eq m ρ c)) $$ Hrow
  icases Hl with ⟨Hl0, Hl⟩
  ihave HG := (Entails.of_eq (got_rows (F := F) c)) $$ HG
  iapply (wp_each c (records m ρ K) (sendMax c) (SendI m ρ c) 15 (fun d hd {α} k Q => wp_sends m ρ K c d hd k Q) 15 0 (by decide)) $$ [Hl HG HT HO]
  · isplitr; · iexact HR
    unfold SendI
    rw [bigSep_sep', bigSep_sep', ← Finset.range_eq_Ico]
    isplitl [Hl HG HT]
    · isplitl [Hl]; · iexact Hl
      isplitl [HG]; · iexact HG
      iexact HT
    isplitr
    · rw [Finset.range_zero, bigSep_empty]; iempintro
    iexact HO
  unfold SendI
  iintro ⟨-, HD, HO⟩
  iapply (wp_each c (records m ρ K) (recvMax c) (WaitI c (fun t => arcv (ix t)) fun t => rowPts c (back c (t + 1)) fullShare (amaxAll m ρ)) 15
    (fun d hd {α} k Q => wp_waits m ρ K c (fun t => arcv (ix t)) (fun t => rowPts c (back c (t + 1)) fullShare (amaxAll m ρ)) (recvMax c) d hd k Q
      (wp_recvMax m ρ K c d hd k Q)) 15 0 (by decide)) $$ [HC HA HO]
  · isplitr; · iexact HR
    unfold WaitI
    isplitl [HC]; · iexact HC
    isplitl [HA]; · iexact HA
    isplitr
    · rw [Finset.range_zero, bigSep_empty]; iempintro
    isplitr
    · rw [Finset.range_zero, bigSep_empty]; iempintro
    rw [show 0 + 15 = 15 from rfl, Omax_end]; iexact HO
  unfold WaitI
  iintro ⟨-, -, HA, HX, HO⟩
  iapply (wp_each c (records m ρ K) (sentMax c) (WaitI c (fun t => asnd (ix t)) fun t => rowPts c c (ShareLeaves.leaf 4 fullShare (ix t)) (amaxAll m ρ)) 15
    (fun d hd {α} k Q => wp_waits m ρ K c (fun t => asnd (ix t)) (fun t => rowPts c c (ShareLeaves.leaf 4 fullShare (ix t)) (amaxAll m ρ)) (sentMax c) d hd k Q
      (wp_sentMax m ρ K c d hd k Q)) 15 0 (by decide)) $$ [HD HB HO]
  · isplitr; · iexact HR
    unfold WaitI
    isplitl [HD]; · rw [← Finset.range_eq_Ico]; iexact HD
    isplitl [HB]; · iexact HB
    isplitr
    · rw [Finset.range_zero, bigSep_empty]; iempintro
    isplitr
    · rw [Finset.range_zero, bigSep_empty]; iempintro
    iexact HO
  unfold WaitI
  iintro ⟨-, -, HB, HL, HO⟩
  iapply Hk
  isplitl [Hl0 HL HX]
  · iapply (rows_join (F := F) c (amaxAll m ρ))
    isplitl [Hl0 HL]
    · iapply (Entails.of_eq (leaves_eq m ρ c).symm)
      isplitl [Hl0]; · iexact Hl0
      iexact HL
    · iapply (Entails.of_eq (bigSep_shift (F := F) (fun d => rowPts c (back c d) fullShare (amaxAll m ρ))))
      iexact HX
  isplitl [HO]; · iexact HO
  isplitl [HA]; · iexact HA
  iexact HB

end Max

end Cert.Ring

end
-- ==== Proof.Body.lean ====
/-
# 01_k — a device's run of the body
-/
module

public import proofs.«01_k».proof.Proof.Finish

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells one by one -/

omit [FloatOps F] in
theorem bigSep_dir (Φ : Dir → sProp 𝕄) : bigSep Finset.univ Φ = iprop(Φ .cw ∗ Φ .ccw) := (bigSep_univ_eq_bigSepL [Dir.cw, Dir.ccw] (by decide) (by decide) Φ).trans (by rw [bigSepL_cons_cons, bigSepL_singleton]; rfl)
omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_unit (Φ : Unit → sProp 𝕄) : bigSep Finset.univ Φ = Φ () := bigSep_univ_eq_bigSepL [()] (by decide) (by decide) Φ

omit [FloatOps F] in
theorem cells_eq (Φ : CK → sProp 𝕄) : bigSep Finset.univ Φ
    = iprop(Φ bar ∗ (((Φ (snd .cw 0) ∗ Φ (snd .cw 1) ∗ Φ (snd .cw 2)) ∗ (Φ (snd .ccw 0) ∗ Φ (snd .ccw 1) ∗ Φ (snd .ccw 2)))
        ∗ ((Φ (rcv .cw 0) ∗ Φ (rcv .cw 1) ∗ Φ (rcv .cw 2)) ∗ (Φ (rcv .ccw 0) ∗ Φ (rcv .ccw 1) ∗ Φ (rcv .ccw 2))))
      ∗ ((Φ (asnd 0) ∗ bigSep (Finset.range 15) fun t => Φ (asnd (ix t))) ∗ (Φ (arcv 0) ∗ bigSep (Finset.range 15) fun t => Φ (arcv (ix t))))) := by
  have h (Ψ : Dir × Fin 3 → sProp 𝕄) : bigSep Finset.univ Ψ
      = iprop((Ψ (.cw, 0) ∗ Ψ (.cw, 1) ∗ Ψ (.cw, 2)) ∗ (Ψ (.ccw, 0) ∗ Ψ (.ccw, 1) ∗ Ψ (.ccw, 2))) := by
    rw [bigSep_univ_prod, bigSep_dir, bigSep_three, bigSep_three]
  rw [bigSep_univ_sum, bigSep_univ_sum, bigSep_univ_sum, bigSep_univ_sum, bigSep_unit, h, h, bigSep_ix, bigSep_ix]
  rfl

/-- Where a device starts at its cells. -/
def Places (c : Dev nD) : sProp 𝕄 := bigSep Finset.univ fun k : CK => (atPos ER (cell c k) 0 ∅ 0 : sProp 𝕄)
/-- Its cells' counters at zero. -/
def Zeros (c : Dev nD) : sProp 𝕄 := bigSep Finset.univ fun k : CK => (semVal (cell c k) 0 : sProp 𝕄)
/-- The tokens of the duties it pays, and the credit of those it is paid. -/
def PayToks (c : Dev nD) : sProp 𝕄 :=
  iprop((dutyTok ER (cell (dst .cw c) bar) 0 Dir.cw ∗ dutyTok ER (cell (dst .ccw c) bar) 0 Dir.ccw)
    ∗ (Toks (F := F) .cw c 0 ∗ Toks (F := F) .ccw c 0) ∗ bigSep (Finset.Ico 0 15) fun t => tokMax (F := F) c t)
def Credits (c : Dev nD) : sProp 𝕄 :=
  iprop(cred (tallyAt (cell c bar) 0 2) ∗ (Crs (F := F) .cw c 0 ∗ Crs (F := F) .ccw c 0)
    ∗ bigSep (Finset.Ico 0 15) fun t => (cred (tallyAt (cell c (arcv (ix t))) 0 Na) : sProp 𝕄))
/-- Some contents of a whole scratch buffer. -/
def scr (c : Dev nD) (b : Ref sig .tc) : sProp 𝕄 := iprop(∃ f : Buf (Elt F) ((c : Thread nD τ).loc b), ((c : Thread nD τ).loc b) ↦{fullShare} f)

section Run
variable (K : Dev nD × CK → ℕ)

/-- Every cell closes once a device has taken all that it receives. -/
theorem close_all (c : Dev nD) :
    iprop(records m ρ K ∗ bigSep Finset.univ fun k : CK => (atPos ER (cell c k) (fin k) ∅ 0 : sProp 𝕄)) ⊢ |={Set.univ}=> Zeros (F := F) c := by
  refine (bigSep_with_persistent (R := records m ρ K) (Ψ := fun k : CK => iprop(|={Set.univ}=> semVal (cell c k) 0)) fun k _ => ?_).trans (bigSep_fupd _ _)
  iintro ⟨#HR, Ha⟩
  iapply (Rounds.cell_close ER (Rd m ρ) (Set.mem_univ (K (c, k))) (fun h => h) (R := fin k) (duties_fin m ρ c k))
  isplitr
  · iapply (rec_inv m ρ K c k); iexact HR
  iexact Ha

/-- What stays aside while the body runs: the two cells of the maxima nobody uses. -/
def Unused (c : Dev nD) : sProp 𝕄 := iprop(atPos ER (cell c (asnd 0)) 0 ∅ 0 ∗ atPos ER (cell c (arcv 0)) 0 ∅ 0)

theorem at_start (c : Dev nD) (k : CK) : iprop(records m ρ K ∗ atPos ER (cell c k) 0 ∅ 0) ⊢ At (F := F) c k 0 := by
  unfold At
  iintro ⟨#HR, Ha⟩
  isplitl [Ha]; · iexact Ha
  iapply (rec_reached m ρ K c k); iexact HR

theorem three_start (c : Dev nD) (k k' k'' : CK) :
    iprop(records m ρ K ∗ atPos ER (cell c k) 0 ∅ 0 ∗ atPos ER (cell c k') 0 ∅ 0 ∗ atPos ER (cell c k'') 0 ∅ 0)
      ⊢ iprop(At (F := F) c k 0 ∗ At (F := F) c k' 0 ∗ At (F := F) c k'' 0) := by
  iintro ⟨#HR, H, H', H''⟩
  isplitl [H]
  · iapply (at_start m ρ K c k); isplitr; · iexact HR
    iexact H
  isplitl [H']
  · iapply (at_start m ρ K c k'); isplitr; · iexact HR
    iexact H'
  iapply (at_start m ρ K c k''); isplitr; · iexact HR
  iexact H''

theorem pos_start (D : Dir) (c : Dev nD) :
    iprop(records m ρ K ∗ (atPos ER (cell c (snd D 0)) 0 ∅ 0 ∗ atPos ER (cell c (snd D 1)) 0 ∅ 0 ∗ atPos ER (cell c (snd D 2)) 0 ∅ 0)
        ∗ (atPos ER (cell c (rcv D 0)) 0 ∅ 0 ∗ atPos ER (cell c (rcv D 1)) 0 ∅ 0 ∗ atPos ER (cell c (rcv D 2)) 0 ∅ 0))
      ⊢ iprop(PosS (F := F) D c 0 ∗ PosR (F := F) D c 0) := by
  unfold PosS PosR
  iintro ⟨#HR, HS, ⟨H0, H1, H2⟩⟩
  isplitl [HS]
  · iapply (three_start m ρ K c (snd D 0) (snd D 1) (snd D 2)); isplitr; · iexact HR
    iexact HS
  · iapply (three_start m ρ K c (rcv D 1) (rcv D 2) (rcv D 0)); isplitr; · iexact HR
    isplitl [H1]; · iexact H1
    isplitl [H2]; · iexact H2
    iexact H0

omit [FloatOps F] in
theorem pos_end (D : Dir) (c : Dev nD) :
    iprop(PosS (F := F) D c 15 ∗ PosR (F := F) D c 15)
      ⊢ iprop((atPos ER (cell c (snd D 0)) 5 ∅ 0 ∗ atPos ER (cell c (snd D 1)) 5 ∅ 0 ∗ atPos ER (cell c (snd D 2)) 5 ∅ 0)
        ∗ (atPos ER (cell c (rcv D 0)) 5 ∅ 0 ∗ atPos ER (cell c (rcv D 1)) 5 ∅ 0 ∗ atPos ER (cell c (rcv D 2)) 5 ∅ 0)) := by
  unfold PosS PosR At
  iintro ⟨⟨⟨H0, -⟩, ⟨H1, -⟩, ⟨H2, -⟩⟩, ⟨⟨H1', -⟩, ⟨H2', -⟩, ⟨H0', -⟩⟩⟩
  isplitl [H0 H1 H2]
  · isplitl [H0]; · iexact H0
    isplitl [H1]; · iexact H1
    iexact H2
  isplitl [H0']; · iexact H0'
  isplitl [H1']; · iexact H1'
  iexact H2'

theorem places_open (c : Dev nD) :
    iprop(records m ρ K ∗ Places (F := F) c)
      ⊢ iprop(atPos ER (cell c bar) 0 ∅ 0 ∗ (PosS (F := F) .cw c 0 ∗ PosR (F := F) .cw c 0) ∗ (PosS (F := F) .ccw c 0 ∗ PosR (F := F) .ccw c 0) ∗ Unused (F := F) c
        ∗ (bigSep (Finset.Ico 0 15) fun t => (atPos ER (cell c (arcv (ix t))) 0 ∅ 0 : sProp 𝕄))
        ∗ (bigSep (Finset.Ico 0 15) fun t => (atPos ER (cell c (asnd (ix t))) 0 ∅ 0 : sProp 𝕄))) := by
  unfold Places Unused
  rw [cells_eq, ← Finset.range_eq_Ico]
  iintro ⟨#HR, HB, ⟨⟨HS, HS'⟩, ⟨HV, HV'⟩⟩, ⟨⟨HA, HA'⟩, ⟨HC, HC'⟩⟩⟩
  isplitl [HB]; · iexact HB
  isplitl [HS HV]
  · iapply (pos_start m ρ K .cw c); isplitr; · iexact HR
    isplitl [HS]; · iexact HS
    iexact HV
  isplitl [HS' HV']
  · iapply (pos_start m ρ K .ccw c); isplitr; · iexact HR
    isplitl [HS']; · iexact HS'
    iexact HV'
  isplitl [HA HC]
  · isplitl [HA]; · iexact HA
    iexact HC
  isplitl [HC']; · iexact HC'
  iexact HA'

omit [FloatOps F] in
theorem places_close (c : Dev nD) :
    iprop(atPos ER (cell c bar) 1 ∅ 0 ∗ (PosS (F := F) .cw c 15 ∗ PosR (F := F) .cw c 15) ∗ (PosS (F := F) .ccw c 15 ∗ PosR (F := F) .ccw c 15) ∗ Unused (F := F) c
        ∗ (bigSep (Finset.range 15) fun t => (atPos ER (cell c (arcv (ix t))) 1 ∅ 0 : sProp 𝕄))
        ∗ (bigSep (Finset.range 15) fun t => (atPos ER (cell c (asnd (ix t))) 1 ∅ 0 : sProp 𝕄)))
      ⊢ bigSep Finset.univ fun k : CK => (atPos ER (cell c k) (fin k) ∅ 0 : sProp 𝕄) := by
  rw [cells_eq]
  have h1 : (bigSep (Finset.range 15) fun t => (atPos ER (cell c (asnd (ix t))) (fin (asnd (ix t))) ∅ 0 : sProp 𝕄))
      = bigSep (Finset.range 15) fun t => (atPos ER (cell c (asnd (ix t))) 1 ∅ 0 : sProp 𝕄) :=
    bigSep_congr fun t ht => by
      rw [show fin (asnd (ix t)) = 1 from if_neg (ix_ne t (Finset.mem_range.mp ht))]
  have h2 : (bigSep (Finset.range 15) fun t => (atPos ER (cell c (arcv (ix t))) (fin (arcv (ix t))) ∅ 0 : sProp 𝕄))
      = bigSep (Finset.range 15) fun t => (atPos ER (cell c (arcv (ix t))) 1 ∅ 0 : sProp 𝕄) :=
    bigSep_congr fun t ht => by
      rw [show fin (arcv (ix t)) = 1 from if_neg (ix_ne t (Finset.mem_range.mp ht))]
  rw [h1, h2]
  unfold Unused
  iintro ⟨HB, HP, HQ, ⟨HA, HC⟩, HC', HA'⟩
  ihave HP := (pos_end (F := F) .cw c) $$ HP
  ihave HQ := (pos_end (F := F) .ccw c) $$ HQ
  icases HP with ⟨HS, HV⟩
  icases HQ with ⟨HS', HV'⟩
  isplitl [HB]; · iexact HB
  isplitl [HS HS' HV HV']
  · isplitl [HS HS']
    · isplitl [HS]; · iexact HS
      iexact HS'
    isplitl [HV]; · iexact HV
    iexact HV'
  isplitl [HA HA']
  · isplitl [HA]; · iexact HA
    iexact HA'
  isplitl [HC]; · iexact HC
  iexact HC'

/-! ## The prologue -/

omit [FloatOps F] in
theorem passed_start (D : Dir) (c : Dev nD) : (match D with | .cw => bundle (F := F) c 1 | .ccw => iprop(emp)) = passed (F := F) D (dst D c) 0 := by
  cases D
  · show bundle (F := F) c 1 = bundle (F := F) (back (nxt c) (0 + 1)) (0 + 1)
    rw [back_nxt, back_zero]
  · rfl

/-- What the ring takes at its start. -/
def RingIn (D : Dir) (c : Dev nD) : sProp 𝕄 :=
  iprop(slotAny (F := F) c D 2 ∗ passed (F := F) D (dst D c) 0 ∗ Toks (F := F) D c 0 ∗ (PosS (F := F) D c 0 ∗ PosR (F := F) D c 0) ∗ Crs (F := F) D c 0)

theorem ring_start (D : Dir) (c : Dev nD) :
    iprop(records m ρ K ∗ RingIn (F := F) D c ∗ slotPts c D 0 (sum m ρ D c 0) ∗ slotAny (F := F) (dst D c) D 1) ⊢ Ring m ρ D c 0 := by
  unfold RingIn Ring Right Got
  iintro ⟨#HR, ⟨H2, Hp, Ht, ⟨HS, HV⟩, HC⟩, H0, H1⟩
  isplitl [H0]; · iexact H0
  isplitl [H2]; · iexact H2
  isplitl [H1]
  · isplitl [H1]; · iexact H1
    iapply (rec_reached m ρ K (dst D c) (rcv D (sl (0 + 1)))); iexact HR
  isplitl [Hp]; · iexact Hp
  isplitl [Ht]; · iexact Ht
  isplitl [HS]; · iexact HS
  isplitl [HV]; · iexact HV
  isplitl [HC]; · iexact HC
  rw [Finset.range_zero, bigSep_empty]; iempintro

set_option maxHeartbeats 1000000 in
theorem wp_prologue (c : Dev nD) {α : Type} (k : PUnit → P F α) (Q : α → sProp 𝕄) :
    iprop(records m ρ K ∗ (dutyTok ER (cell (dst .cw c) bar) 0 Dir.cw ∗ dutyTok ER (cell (dst .ccw c) bar) 0 Dir.ccw)
        ∗ cred (tallyAt (cell c bar) 0 2) ∗ atPos ER (cell c bar) 0 ∅ 0 ∗ Owes c (O₀ c) ∗ xPts m ρ c ∗ wPts m ρ c
        ∗ (slotAny (F := F) c .cw 0 ∗ slotAny (F := F) c .cw 1) ∗ (slotAny (F := F) c .ccw 0 ∗ slotAny (F := F) c .ccw 1)
        ∗ RingIn (F := F) .cw c ∗ RingIn (F := F) .ccw c)
      ⊢ iprop((St m ρ c 0 ∗ atPos ER (cell c bar) 1 ∅ 0 -∗ WP c (k ⟨⟩) Q) -∗ WP c (prologue c >>= k) Q) := by
  unfold prologue
  simp only [bind_assoc]
  simp only [semSignalWord, semWaitWord, Prog.lift, Prog.bind_op, Prog.bind_ret]
  simp only [dev1_eq c, dev2_eq c]
  unfold Owes O₀
  iintro ⟨#HR, ⟨HtA, HtB⟩, Hc, Ha, ⟨%W, HO⟩, Hx, Hw, ⟨HA0, HA1⟩, ⟨HB0, HB1⟩, HIA, HIB⟩ Hk
  iapply (Rounds.wp_signal 𝒱₀ ER (Rd m ρ) (c : Thread nD τ) none (dst := (dst .ccw c : Thread nD τ)) (κ := K (dst .ccw c, bar))
      (d := Dir.ccw) (by rw [duties_cell m ρ (dst .ccw c) bar]; decide) ((amount_cell m ρ (dst .ccw c) bar 0 .ccw).trans (by decide)) 0 (Oring c 0 + Omax c 0 + dueBar .cw c) rfl)
    $$ [HO HtB HA1]
  · isplitr; · iapply (rec_inv m ρ K (dst .ccw c) bar); iexact HR
    isplitl [HO]; · iexact HO
    isplitl [HtB]; · iexact HtB
    isplitl [HA1]
    · rw [payload_cell m ρ (dst .ccw c) bar]
      have e : pay m ρ (dst .ccw c) bar 0 .ccw = slotAny (F := F) c .cw 1 := by
        show slotAny (F := F) (frm .ccw (dst .ccw c)) .cw 1 = _
        rw [frm_dst]
      rw [e]; iexact HA1
    iapply (rec_reached m ρ K (dst .ccw c) bar); iexact HR
  iintro HO
  iapply (Rounds.wp_signal 𝒱₀ ER (Rd m ρ) (c : Thread nD τ) none (dst := (dst .cw c : Thread nD τ)) (κ := K (dst .cw c, bar))
      (d := Dir.cw) (by rw [duties_cell m ρ (dst .cw c) bar]; decide) ((amount_cell m ρ (dst .cw c) bar 0 .cw).trans (by decide)) 0 (Oring c 0 + Omax c 0) rfl)
    $$ [HO HtA HB1]
  · isplitr; · iapply (rec_inv m ρ K (dst .cw c) bar); iexact HR
    isplitl [HO]; · iexact HO
    isplitl [HtA]; · iexact HtA
    isplitl [HB1]
    · rw [payload_cell m ρ (dst .cw c) bar]
      have e : pay m ρ (dst .cw c) bar 0 .cw = slotAny (F := F) c .ccw 1 := by
        show slotAny (F := F) (frm .cw (dst .cw c)) .ccw 1 = _
        rw [frm_dst]
      rw [e]; iexact HB1
    iapply (rec_reached m ρ K (dst .cw c) bar); iexact HR
  iintro HO
  iapply (Rounds.wp_wait_rest_token 𝒱₀ ER (Rd m ρ) (c : Thread nD τ) none (κ := K (c, bar))
      (wpE_semWait_eq 𝒱₀ (c : Thread nD τ) none Set.univ) (Set.mem_univ _) 0 (O := Oring c 0 + Omax c 0) (W := W) (R := 0) (m := 0) (T := ∅)
      (by rw [expect_bar]; decide)) $$ [Hc HO Ha]
  · isplitr; · iapply (rec_inv m ρ K c bar); iexact HR
    isplitl [Hc]; · iexact Hc
    isplitl [HO]; · iexact HO
    isplitr
    · iapply (rec_wait m ρ K c bar 0 1 (Oring c 0 + Omax c 0) (by decide) (Nat.le_refl _) ((above_ring c 0 1 (by decide)).add (above_max c 0 1 (by decide)))); iexact HR
    iexact Ha
  iintro ⟨HO, Ha, -, Hp⟩
  ihave Hp := (Entails.of_eq (rest_bar m ρ c)) $$ Hp
  icases Hp with ⟨HnB, HnA⟩
  iapply (wp_first m ρ c .cw) $$ [Hx Hw HA0]
  · isplitl [Hx]; · iexact Hx
    isplitl [Hw]; · iexact Hw
    iexact HA0
  iintro ⟨Hx, Hw, HA0⟩
  iapply (wp_first m ρ c .ccw) $$ [Hx Hw HB0]
  · isplitl [Hx]; · iexact Hx
    isplitl [Hw]; · iexact Hw
    iexact HB0
  iintro ⟨Hx, Hw, HB0⟩
  iapply Hk
  isplitr [Ha]
  · unfold St
    isplitl [HIA HA0 HnA]
    · iapply (ring_start m ρ K .cw c)
      isplitr; · iexact HR
      isplitl [HIA]; · iexact HIA
      isplitl [HA0]; · iexact HA0
      iexact HnA
    isplitl [HIB HB0 HnB]
    · iapply (ring_start m ρ K .ccw c)
      isplitr; · iexact HR
      isplitl [HIB]; · iexact HIB
      isplitl [HB0]; · iexact HB0
      iexact HnB
    isplitl [HO]
    · unfold Owes Owe; rw [add_comm (Omax c 0)]; iexists _; iexact HO
    isplitl [Hx]; · iexact Hx
    iexact Hw
  iexact Ha

/-! ## The body -/

/-- What a device's body starts from besides the records. -/
def Begin (c : Dev nD) : sProp 𝕄 := iprop(Places (F := F) c ∗ PayToks (F := F) c ∗ Credits (F := F) c)
/-- The scratch buffers. -/
def Scratch (c : Dev nD) : sProp 𝕄 := iprop(scr (F := F) c cc0_scratch0 ∗ scr (F := F) c cc0_scratch1 ∗ scr (F := F) c cc0_scratch2)

set_option maxHeartbeats 1000000 in
theorem wp_body (c : Dev nD) (f : (cc0_stg2_0 : Ref sig .tc).ty.Contents (Elt F)) (Q : PUnit → sProp 𝕄) :
    iprop(records m ρ K ∗ Begin (F := F) c ∗ Scratch (F := F) c ∗ Owes c (O₀ c) ∗ xPts m ρ c ∗ wPts m ρ c ∗ oPts c f)
      ⊢ iprop((Scratch (F := F) c ∗ Zeros (F := F) c ∗ Owes c 0 ∗ xPts m ρ c ∗ wPts m ρ c ∗ oPts c (outAt m ρ c) -∗ Q ⟨⟩) -∗ WP c (body c) Q) := by
  unfold Begin PayToks Credits Scratch body
  rw [steps_eq]
  iintro ⟨#HR, ⟨HP, ⟨Htb, ⟨HtA, HtB⟩, Htm⟩, ⟨Hcb, ⟨HcA, HcB⟩, Hcm⟩⟩, ⟨Hs0, Hs1, Hs2⟩, HO, Hx, Hw, Hout⟩ Hk
  ihave HP := (places_open m ρ K c) $$ [HP]
  · isplitr; · iexact HR
    iexact HP
  icases HP with ⟨Hbar, HpA, HpB, HU, Harcv, Hasnd⟩
  unfold scr
  icases Hs0 with ⟨%f0, Hs0⟩
  icases Hs1 with ⟨%f1, Hs1⟩
  icases Hs2 with ⟨%f2, Hs2⟩
  ihave HA := (slots_split (F := F) c .cw f0) $$ Hs0
  ihave HB := (slots_split (F := F) c .ccw f1) $$ Hs1
  ihave Hr := (rows_split (F := F) c f2) $$ Hs2
  icases HA with ⟨HA0, HA1, HA2⟩
  icases HB with ⟨HB0, HB1, HB2⟩
  icases Hr with ⟨Hrow, Hbun⟩
  iapply (wp_prologue m ρ K c) $$ [Htb Hcb Hbar HO Hx Hw HA0 HA1 HB0 HB1 HA2 HB2 Hbun HtA HtB HpA HpB HcA HcB]
  · isplitr; · iexact HR
    isplitl [Htb]; · iexact Htb
    isplitl [Hcb]; · iexact Hcb
    isplitl [Hbar]; · iexact Hbar
    isplitl [HO]; · iexact HO
    isplitl [Hx]; · iexact Hx
    isplitl [Hw]; · iexact Hw
    isplitl [HA0 HA1]
    · isplitl [HA0]; · iexact HA0
      iexact HA1
    isplitl [HB0 HB1]
    · isplitl [HB0]; · iexact HB0
      iexact HB1
    unfold RingIn
    isplitl [HA2 Hbun HtA HpA HcA]
    · isplitl [HA2]; · iexact HA2
      isplitl [Hbun]
      · iapply (Entails.of_eq (passed_start (F := F) .cw c)); iexact Hbun
      isplitl [HtA]; · iexact HtA
      isplitl [HpA]; · iexact HpA
      iexact HcA
    isplitl [HB2]; · iexact HB2
    isplitr
    · iapply (Entails.of_eq (passed_start (F := F) .ccw c)); iempintro
    isplitl [HtB]; · iexact HtB
    isplitl [HpB]; · iexact HpB
    iexact HcB
  iintro ⟨HSt, Hbar⟩
  iapply (wp_each c (records m ρ K) (step c) (St m ρ c) 14 (fun s hs {α} k Q => wp_step m ρ K c s hs k Q) 14 0 (by decide)) $$ [HSt]
  · isplitr; · iexact HR
    iexact HSt
  iintro HSt
  iapply (wp_last m ρ K c f) $$ [HSt Hout]
  · isplitr; · iexact HR
    isplitl [HSt]; · iexact HSt
    iexact Hout
  unfold Done
  iintro ⟨⟨HA, HpA, HpA', HgA⟩, ⟨HB, HpB, HpB', -⟩, HO, Hx, Hw, Hout⟩
  iapply (wp_storeMax m ρ c) $$ [Hout Hrow]
  · isplitl [Hout]; · iexact Hout
    iexact Hrow
  iintro ⟨Hout, Hrow⟩
  iapply (wp_max m ρ K c (fun _ => epilogue)) $$ [Hrow HgA Htm HO Hcm Harcv Hasnd]
  · isplitr; · iexact HR
    unfold MaxPre
    isplitl [Hrow]; · iexact Hrow
    isplitl [HgA]; · iexact HgA
    isplitl [Htm]; · iexact Htm
    isplitl [HO]; · iexact HO
    isplitl [Hcm]; · iexact Hcm
    isplitl [Harcv]; · iexact Harcv
    iexact Hasnd
  unfold MaxPost
  iintro ⟨Hall, HO, Harcv, Hasnd⟩
  iapply (wp_epilogue m ρ c) $$ [Hall Hout]
  · isplitl [Hall]; · iexact Hall
    iexact Hout
  iintro ⟨Hall, Hout⟩
  imod (close_all m ρ K c) $$ [Hbar HpA HpA' HpB HpB' HU Harcv Hasnd] with HZ
  · isplitr; · iexact HR
    iapply (places_close (F := F) c)
    isplitl [Hbar]; · iexact Hbar
    isplitl [HpA HpA']
    · isplitl [HpA]; · iexact HpA
      iexact HpA'
    isplitl [HpB HpB']
    · isplitl [HpB]; · iexact HpB
      iexact HpB'
    isplitl [HU]; · iexact HU
    isplitl [Harcv]; · iexact Harcv
    iexact Hasnd
  imodintro
  iapply Hk
  isplitl [HA HB Hall]
  · isplitl [HA]; · iapply (slots_join (F := F) c .cw); iexact HA
    isplitl [HB]; · iapply (slots_join (F := F) c .ccw); iexact HB
    iexists _; iexact Hall
  isplitl [HZ]; · iexact HZ
  isplitl [HO]; · iexact HO
  isplitl [Hx]; · iexact Hx
  isplitl [Hw]; · iexact Hw
  iexact Hout

end Run

end Cert.Ring

end
-- ==== Proof.BodyEq.lean ====
module

public import proofs.«01_k».proof.Proof.Program

@[expose] public section

noncomputable section

namespace Cert.Ring

open Cert.KernelIdeal Cert.KernelIdeal.Gen

open Idealize.ShloMosaic
open Idealize.ShloMosaic.TcCoe
open Idealize.SL.Sem

variable {F : FTy → Type} [FloatOps F]

set_option maxRecDepth 65536 in
set_option maxHeartbeats 1600000 in
theorem body_eq : printed (F := F) = (Prog.lift .deviceId : P F (Dev nD)).bind fun c => body c := by
  simp only [printed, cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel,
    Prog.lift, Prog.bind_op, Prog.bind_ret, Prog.pure_eq_ret, semSignalWord, semWaitWord]
  simp only [body, prologue, each, step, lastStep, storeMax, sendMax, recvMax, sentMax, epilogue, first, partial_, accum, finish,
    enq, waitOn, loadX, loadW, loadO, storeO, loadS, storeS, steps, copies,
    Prog.lift, Prog.bind_op, Prog.bind_ret, Prog.pure_eq_ret, semSignalWord, semWaitWord]
  rfl

end Cert.Ring

end
-- ==== Proof.Launch.lean ====
/-
# 01_k — the launch, and the run of every device
-/
module

public import proofs.«01_k».proof.Proof.Body
public import proofs.«01_k».proof.Proof.BodyEq
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The body's obligation -/

/-- What a device's body starts from. -/
def start (c : Dev nD) : sProp 𝕄 := iprop(∃ K, records m ρ K ∗ Begin (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => iprop(start m ρ c ∗ Scratch (F := F) c)
    | ⟨_ + 1, _⟩ => iprop(Scratch (F := F) c ∗ Zeros (F := F) c)
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m ρ c ∗ Scratch (F := F) c) ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop((Scratch (F := F) c ∗ Zeros (F := F) c) ∗ (dats m ρ 0 c).owesAt 0 t0_0.succ
    ∗ stg c cc0_stg0_0 (xstg m ρ c) ∗ stg c cc0_stg1_0 (wstg m ρ c) ∗ stg c cc0_stg2_0 (outAt m ρ c))

theorem sound_body (c : Dev nD) : bodyPre m ρ c ⊢ WP c (body c) (fun _ => bodyPost m ρ c) := by
  unfold bodyPre start
  iintro ⟨⟨⟨%K, #HR, HB⟩, HS⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_0 t0_0)]; rfl
  have hw : g1 = wstg m ρ c := by rw [hg1]; unfold Dat.before; rw [if_pos (fetch_1 t0_0)]; rfl
  subst hx hw
  unfold Dat.owesAt Pipeline.owesWithin
  icases Ho with ⟨%W, %hW, HO⟩
  rw [show (dats m ρ 0 c).owed t0_0.castSucc = O₀ c from rfl]
  iapply (wp_body m ρ K c g2 (fun _ => bodyPost m ρ c)) $$ [HB HS HO Hx Hw Hout]
  · isplitr; · iexact HR
    isplitl [HB]; · iexact HB
    isplitl [HS]; · iexact HS
    isplitl [HO]; · unfold Owes; iexists W; iexact HO
    unfold xPts wPts oPts
    isplitl [Hx]; · iexact Hx
    isplitl [Hw]; · iexact Hw
    iexact Hout
  unfold bodyPost Dat.owesAt Pipeline.owesWithin Owes xPts wPts oPts
  rw [show (dats m ρ 0 c).owed t0_0.succ = 0 from rfl]
  iintro ⟨HS, HZ, ⟨%W', HO⟩, Hx, Hw, Hout⟩
  isplitl [HS HZ]
  · isplitl [HS]; · iexact HS
    iexact HZ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem id_eq_of (c : Dev nD) (k : Dev nD → P F PUnit) (Q : PUnit → sProp 𝕄) : WP c (.op .deviceId k) Q = WP c (k c) Q :=
  wp_deviceId 𝒱₀ (c : Thread nD τ) none Set.univ
theorem sound_printed (c : Dev nD) : bodyPre m ρ c ⊢ WP c (printed (F := F)) (fun _ => bodyPost m ρ c) := by
  have e : printed (F := F) = .op .deviceId fun c => body c := body_eq
  rw [e]
  exact (sound_body m ρ c).trans (Entails.of_eq (id_eq_of c body (fun _ => bodyPost m ρ c)).symm)

set_option maxRecDepth 65536 in
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ wp frame (wpE (defs₀ (F := F)) 𝒱₀ c none) Set.univ (printed (F := F)) (fun _ => bodyPost m ρ c)
  exact sound_printed m ρ c

/-! ## What the launch deals -/

set_option maxRecDepth 16384 in
theorem ownSemFacts : Pipeline.OwnSemFacts cfg0.spec osem := by decide +kernel

theorem share_eq (c : Dev nD) (w : Fin cfg0.W) : (dats m ρ 0 c).share w = fullShare := by unfold Dat.share; split <;> rfl

theorem cell_injective : Function.Injective (fun g : Dev nD × CK => cell g.1 g.2) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨fun g : Dev nD × CK => cell g.1 g.2, cell_injective⟩

/-- A device's duties: the barrier's two, the steps' send and receive ones, the maxima's. -/
abbrev TI : Type := Dir ⊕ (((Dir × Fin 15) ⊕ (Dir × Fin 15)) ⊕ (Fin 15 ⊕ Fin 15))
abbrev tokK : TI → CK × ℕ × Dir
  | .inl D => (bar, 0, D)
  | .inr (.inl (.inl (D, s))) => (snd D (sl s.val), s.val / 3, .cw)
  | .inr (.inl (.inr (D, s))) => (rcv D (sl (s.val + 1)), s.val / 3, .cw)
  | .inr (.inr (.inl d)) => (asnd (ix d.val), 0, .cw)
  | .inr (.inr (.inr d)) => (arcv (ix d.val), 0, .cw)
set_option maxRecDepth 8000 in
theorem tokK_injective : Function.Injective tokK := by decide +kernel
abbrev tokOf (x : Dev nD × TI) : GSem nD τ sig × ℕ × Dir := (cell x.1 (tokK x.2).1, (tokK x.2).2.1, (tokK x.2).2.2)
theorem tokOf_injective : Function.Injective tokOf := by
  rintro ⟨c, i⟩ ⟨c', i'⟩ h
  have h1 : (c, (tokK i).1) = (c', (tokK i').1) := cell_injective (congrArg (fun x : GSem nD τ sig × ℕ × Dir => x.1) h)
  have h2 : (tokK i).2 = (tokK i').2 := congrArg (fun x : GSem nD τ sig × ℕ × Dir => x.2) h
  have h3 : i = i' := tokK_injective (Prod.ext (congrArg Prod.snd h1) h2)
  exact Prod.ext (congrArg (fun g : Dev nD × CK => g.1) h1) h3
def ringToks : Finset (GSem nD τ sig × ℕ × Dir) := Finset.univ.map ⟨tokOf, tokOf_injective⟩

def u₀ : UU :=
  (initOf (Pipeline.cells cfgs cellOf_inj) (Pipeline.launchToks cfgs cellOf_inj), initOf ringCells ringToks)

/-- The token of duty `i` of device `c`'s own cells. -/
def tokAt (c : Dev nD) (i : TI) : sProp 𝕄 := dutyTok ER (cell c (tokK i).1) (tokK i).2.1 (tokK i).2.2
def toks (c : Dev nD) : sProp 𝕄 := bigSep Finset.univ fun i : TI => tokAt (F := F) c i

def G (c : Dev nD) : sProp 𝕄 :=
  iprop((bigSep Finset.univ fun k : CK => roundState ER (Rd m ρ) (cell c k) 0)
    ∗ (bigSep Finset.univ fun k : CK => iprop(atPos ER (cell c k) 0 ∅ 0 ∗ reached ER (cell c k) 0)) ∗ toks (F := F) c)

/-- What every device knows of every cell, before the levels. -/
def recs (K : Dev nD × CK → ℕ) : sProp 𝕄 :=
  iprop((bigSep Finset.univ fun g : Dev nD × CK => cellInv ER (Rd m ρ) (K g) (cell g.1 g.2))
    ∗ (bigSep Finset.univ fun g : Dev nD × CK => reached ER (cell g.1 g.2) 0))
instance recs_persistent (K : Dev nD × CK → ℕ) : BI.Persistent (recs (F := F) m ρ K) := by unfold recs; infer_instance

def G' (c : Dev nD) : sProp 𝕄 := iprop(∃ K, recs m ρ K ∗ Places (F := F) c ∗ PayToks (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks toks tokAt; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (cell c bar) 0 := by
  unfold unscopedSems0; rw [bigSep_eq_bigSepL_of_eq [SemLoc.reg barS] (by decide) (by decide)]; rfl

omit [FloatOps F] in
theorem zeros_eq (c : Dev nD) : Zeros (F := F) c
    = iprop(unscopedSems0 c ∗ Pipeline.ownSems0 (Ix := ℕ) (Name := ℕ) (U := UU) (Lvl := ℕ) (Val := Elt F) (τ := τ) osem c) := by
  unfold Zeros Pipeline.ownSems0
  rw [unscopedSems0_eq, bigSep_univ_sum, bigSep_unit]; rfl

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (cell c k)))
          ∗ (bigSep Finset.univ fun k : CK => iprop(atPos ER (cell c k) 0 ∅ 0 ∗ reached ER (cell c k) 0)) ∗ toks (F := F) c) := by
  have ha : iprop(Zeros (F := F) c ∗ bigSep Finset.univ fun k : CK => roundState ER (Rd m ρ) (cell c k) 0)
      ⊢ (|={Set.univ}=> bigSep Finset.univ fun k : CK => iprop(∃ κ : ℕ, cellInv ER (Rd m ρ) κ (cell c k)) : sProp 𝕄) := by
    unfold Zeros
    rw [← bigSep_sep']
    exact (bigSep_mono fun k _ => (Rounds.body_intro ER (Rd m ρ) (cell c k)).trans inv_alloc).trans (bigSep_fupd _ _)
  unfold G
  iintro ⟨Hos, Hus, Hst, Hat, Htok⟩
  imod ha $$ [Hos Hus Hst] with Hinv
  · isplitl [Hos Hus]
    · rw [zeros_eq]
      isplitl [Hus] <;> iassumption
    iexact Hst
  imodintro
  isplitl [Hinv]; · iexact Hinv
  isplitl [Hat]; · iexact Hat
  iexact Htok

/-! ## The tokens go to the devices that pay with them -/

def fwdE (d : ℕ) : Dev nD ≃ Dev nD := ⟨fun c => fwd c d, fun c => back c d, fun c => back_fwd c d, fun c => fwd_back c d⟩
def dstE (D : Dir) : Dev nD ≃ Dev nD := ⟨dst D, frm D, frm_dst D, dst_frm D⟩
/-- The device whose cell's duty `i` a device pays. -/
def payE : TI → (Dev nD ≃ Dev nD)
  | .inl D => dstE D
  | .inr (.inl (.inl _)) => Equiv.refl _
  | .inr (.inl (.inr (D, _))) => dstE D
  | .inr (.inr (.inl _)) => Equiv.refl _
  | .inr (.inr (.inr d)) => fwdE (d.val + 1)

omit [FloatOps F] in
theorem bigSep_fifteen (Φ : ℕ → sProp 𝕄) : (bigSep Finset.univ fun i : Fin 15 => Φ i.val) = bigSep (Finset.Ico 0 15) Φ := by
  have h : Finset.Ico 0 15 = (Finset.univ : Finset (Fin 15)).image Fin.val := by decide
  rw [h, bigSep_image_of_injOn]
  intro a _ b _ hab
  exact Fin.ext hab

omit [FloatOps F] in
theorem sep_swap (A B C D : sProp 𝕄) : iprop((A ∗ B) ∗ (C ∗ D)) = iprop((A ∗ C) ∗ (B ∗ D)) := by
  have h : ∀ A B C D : sProp 𝕄, iprop((A ∗ B) ∗ (C ∗ D)) ⊢ iprop((A ∗ C) ∗ (B ∗ D)) := fun A B C D => by
    iintro ⟨⟨HA, HB⟩, ⟨HC, HD⟩⟩
    isplitl [HA HC]
    · isplitl [HA]; · iexact HA
      iexact HC
    isplitl [HB]; · iexact HB
    iexact HD
  exact BI.Entails.antisymm (h A B C D) (h A C B D)
omit [FloatOps F] in
theorem sep_assoc_right (A B C : sProp 𝕄) : iprop((A ∗ B) ∗ C) = iprop(A ∗ B ∗ C) := by
  have h : iprop((A ∗ B) ∗ C) ⊢ iprop(A ∗ B ∗ C) := by
    iintro ⟨⟨HA, HB⟩, HC⟩
    isplitl [HA]; · iexact HA
    isplitl [HB]; · iexact HB
    iexact HC
  have h' : iprop(A ∗ B ∗ C) ⊢ iprop((A ∗ B) ∗ C) := by
    iintro ⟨HA, HB, HC⟩
    isplitl [HA HB]
    · isplitl [HA]; · iexact HA
      iexact HB
    iexact HC
  exact BI.Entails.antisymm h h'

omit [FloatOps F] in
theorem payToks_eq (c : Dev nD) : (bigSep Finset.univ fun i : TI => tokAt (F := F) (payE i c) i) = PayToks (F := F) c := by
  have h1 (D : Dir) : (bigSep Finset.univ fun s : Fin 15 => tokAt (F := F) (payE (.inr (.inl (.inl (D, s)))) c) (.inr (.inl (.inl (D, s)))))
      = bigSep (Finset.Ico 0 15) fun s => (dutyTok ER (cell c (snd D (sl s))) (s / 3) Dir.cw : sProp 𝕄) :=
    bigSep_fifteen (F := F) fun s => dutyTok ER (cell c (snd D (sl s))) (s / 3) Dir.cw
  have h2 (D : Dir) : (bigSep Finset.univ fun s : Fin 15 => tokAt (F := F) (payE (.inr (.inl (.inr (D, s)))) c) (.inr (.inl (.inr (D, s)))))
      = bigSep (Finset.Ico 0 15) fun s => (dutyTok ER (cell (dst D c) (rcv D (sl (s + 1)))) (s / 3) Dir.cw : sProp 𝕄) :=
    bigSep_fifteen (F := F) fun s => dutyTok ER (cell (dst D c) (rcv D (sl (s + 1)))) (s / 3) Dir.cw
  have h3 : (bigSep Finset.univ fun d : Fin 15 => tokAt (F := F) (payE (.inr (.inr (.inl d))) c) (.inr (.inr (.inl d))))
      = bigSep (Finset.Ico 0 15) fun d => (dutyTok ER (cell c (asnd (ix d))) 0 Dir.cw : sProp 𝕄) :=
    bigSep_fifteen (F := F) fun d => dutyTok ER (cell c (asnd (ix d))) 0 Dir.cw
  have h4 : (bigSep Finset.univ fun d : Fin 15 => tokAt (F := F) (payE (.inr (.inr (.inr d))) c) (.inr (.inr (.inr d))))
      = bigSep (Finset.Ico 0 15) fun d => (dutyTok ER (cell (fwd c (d + 1)) (arcv (ix d))) 0 Dir.cw : sProp 𝕄) :=
    bigSep_fifteen (F := F) fun d => dutyTok ER (cell (fwd c (d + 1)) (arcv (ix d))) 0 Dir.cw
  rw [bigSep_univ_sum, bigSep_univ_sum, bigSep_univ_sum, bigSep_univ_sum, bigSep_univ_prod, bigSep_univ_prod, bigSep_dir, bigSep_dir, bigSep_dir,
    h1, h1, h2, h2, h3, h4]
  unfold PayToks Toks tok tokMax
  rw [bigSep_sep', bigSep_sep', bigSep_sep']
  exact congrArg (fun X : sProp 𝕄 => iprop((dutyTok ER (cell (dst .cw c) bar) 0 Dir.cw ∗ dutyTok ER (cell (dst .ccw c) bar) 0 Dir.ccw) ∗ X ∗ _)) (sep_swap _ _ _ _)

omit [FloatOps F] in
theorem toks_around : (bigSep Finset.univ fun c : Dev nD => toks (F := F) c) = bigSep Finset.univ fun c : Dev nD => PayToks (F := F) c := by
  unfold toks
  rw [Pipeline.bigSep_univ_comm]
  rw [bigSep_congr fun (i : TI) _ => bigSep_univ_equiv (payE i) fun c : Dev nD => tokAt (F := F) c i]
  rw [Pipeline.bigSep_univ_comm]
  exact bigSep_congr fun c _ => payToks_eq (F := F) c

theorem regroup :
    (bigSep Finset.univ fun c : Dev nD => iprop((bigSep Finset.univ fun k : CK => iprop(∃ κ : ℕ, cellInv ER (Rd m ρ) κ (cell c k)))
          ∗ (bigSep Finset.univ fun k : CK => iprop(atPos ER (cell c k) 0 ∅ 0 ∗ reached ER (cell c k) 0)) ∗ toks (F := F) c) : sProp 𝕄)
      ⊢ bigSep Finset.univ (G' m ρ) := by
  rw [bigSep_sep', bigSep_sep', ← bigSep_univ_prod (fun g : Dev nD × CK => iprop(∃ κ : ℕ, cellInv ER (Rd m ρ) κ (cell g.1 g.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun g : Dev nD × CK => (reached ER (cell g.1 g.2) 0 : sProp 𝕄)), toks_around]
  iintro ⟨HI, ⟨Hat, #HR⟩, Htok⟩
  ihave HK := (BI.bigSep_exists_pi Finset.univ (fun (g : Dev nD × CK) (κ : ℕ) => (cellInv ER (Rd m ρ) κ (cell g.1 g.2) : sProp 𝕄))) $$ HI
  icases HK with ⟨%K, #HI⟩
  have hg : ∀ c ∈ (Finset.univ : Finset (Dev nD)), iprop(recs m ρ K ∗ (Places (F := F) c ∗ PayToks (F := F) c)) ⊢ G' m ρ c := fun c _ => by
    unfold G'
    iintro H
    iexists K; iexact H
  iapply (bigSep_with_persistent (R := recs m ρ K) hg)
  isplitr
  · unfold recs
    isplitl; · iexact HI
    iexact HR
  · rw [bigSep_sep']
    isplitl [Hat]; · unfold Places; iexact Hat
    iexact Htok

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

omit [FloatOps F] in
theorem creds (c : Dev nD) : (Pipeline.launchCred O₀ c : sProp 𝕄) ⊢ Credits (F := F) c := by
  have hD (D : Dir) (k : CK) (ι n : ℕ) : (Pipeline.launchCred (fun d => tallyAt (cell (dst D d) k) ι n) c : sProp 𝕄) ⊢ cred (tallyAt (cell c k) ι n) :=
    Pipeline.launchCred_tallyAt (csem k) (dst D) (frm D) (dst_frm D) (frm_dst D) ι n c
  have hF (d : ℕ) : (Pipeline.launchCred (fun c => dueMax d c) c : sProp 𝕄) ⊢ cred (tallyAt (cell c (arcv (ix d))) 0 Na) :=
    Pipeline.launchCred_tallyAt (csem (arcv (ix d))) (fun c => fwd c (d + 1)) (fun c => back c (d + 1)) (fun c => fwd_back c (d + 1)) (fun c => back_fwd c (d + 1)) 0 Na c
  have e : (Pipeline.launchCred O₀ c : sProp 𝕄)
      = iprop((((bigSep (Finset.Ico 0 15) fun t => Pipeline.launchCred (fun d => due .cw t d) c) ∗ (bigSep (Finset.Ico 0 15) fun t => Pipeline.launchCred (fun d => due .ccw t d) c))
          ∗ (bigSep (Finset.Ico 0 15) fun t => Pipeline.launchCred (fun d => dueMax t d) c)) ∗ Pipeline.launchCred (fun d => dueBar .cw d) c ∗ Pipeline.launchCred (fun d => dueBar .ccw d) c) := by
    have h1 : (O₀ : Dev nD → CellTallies nD τ sig ℕ) = fun d => (fun d => (fun d => (fun d => Oring d 0) d + (fun d => Omax d 0) d) d + (fun d => dueBar .cw d) d) d + (fun d => dueBar .ccw d) d := rfl
    rw [h1, Pipeline.launchCred_add, Pipeline.launchCred_add, Pipeline.launchCred_add]
    unfold Oring Omax
    rw [Pipeline.launchCred_sum, Pipeline.launchCred_sum,
      bigSep_congr (s := Finset.Ico 0 15) fun t _ => Pipeline.launchCred_add (fun d => due .cw t d) (fun d => due .ccw t d) c, bigSep_sep']
    exact sep_assoc_right _ _ _
  rw [e]
  unfold Credits Crs
  iintro ⟨⟨⟨HA, HB⟩, HM⟩, Hb, Hb'⟩
  isplitl [Hb Hb']
  · ihave Hb := (hD .cw bar 0 1) $$ Hb
    ihave Hb' := (hD .ccw bar 0 1) $$ Hb'
    rw [← tallyAt_add (cell c bar) 0 1 1]
    iapply (cred_add _ _).2
    isplitl [Hb] <;> iassumption
  isplitl [HA HB]
  · isplitl [HA]
    · iapply (show (bigSep (Finset.Ico 0 15) fun t => (Pipeline.launchCred (fun d => due .cw t d) c : sProp 𝕄)) ⊢ _ from
        bigSep_mono fun t _ => hD .cw (rcv .cw (sl (t + 1))) t N)
      iexact HA
    · iapply (show (bigSep (Finset.Ico 0 15) fun t => (Pipeline.launchCred (fun d => due .ccw t d) c : sProp 𝕄)) ⊢ _ from
        bigSep_mono fun t _ => hD .ccw (rcv .ccw (sl (t + 1))) t N)
      iexact HB
  · iapply (show (bigSep (Finset.Ico 0 15) fun t => (Pipeline.launchCred (fun d => dueMax t d) c : sProp 𝕄)) ⊢ _ from bigSep_mono fun t _ => hF t)
    iexact HM

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' records recs Begin
  iintro ⟨-, Hlev, Hcr, -, ⟨%K, ⟨HI, HR⟩, HP, HT⟩⟩
  ihave Hc := (creds (F := F) c) $$ Hcr
  imodintro
  isplitl
  · iexists K
    isplitl [HI HR Hlev]
    · isplitl [HI]; · iexact HI
      isplitl [HR]; · iexact HR
      iexact Hlev
    isplitl [HP]; · iexact HP
    isplitl [HT]; · iexact HT
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ Scratch (F := F) c) from rfl, scopedRest0_eq]
  unfold Scratch scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(Scratch (F := F) c ∗ Zeros (F := F) c) from rfl, scopedRest0_eq, zeros_eq]
  unfold Scratch scr
  iintro ⟨Hr, Hu, Ho⟩
  isplitl [Hu]; · iexact Hu
  isplitl [Ho]; · iexact Ho
  iexact Hr

set_option maxRecDepth 16384 in
theorem stage_cell : ∀ (w : Fin cfg0.W) (s : Fin (cfg0.spec w).nbuf) (k : CK), csem k ≠ .dma ((cfg0.spec w).sem s) := by decide +kernel

set_option maxRecDepth 16384 in
theorem waits (c : Dev nD) : (levAts L lv : sProp 𝕄) ⊢ Pipeline.cellsWaits cfgs (dats m ρ) 0 0 c :=
  Pipeline.cellsWaits_intro cfgs (dats m ρ) 0 0 c fun w s t =>
    mayWait (F := F) c _ 0 0 _ (by decide)
      (by unfold lv; rw [kindOf_none _ (stage_cell w s)])
      (by
        rcases t with ⟨_ | _, ht⟩
        · exact above_start c
        · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- Every execution of the program ends, with each device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Ring

end
-- ==== Proof.Frames.lean ====
/-
# 01_k — the frames

Each program ends without fault, its arguments as they were and every counter at zero: the kernel from its one run, over
the machine's words and over the extended reals, and the reference from its list of operations.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Ring

open Idealize.ShloMosaic Idealize.SL.Sem

/-- The kernel's frame over any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := F) m ρ)

set_option smartUnfolding false in
/-- The kernel's frame over the machine's words. -/
theorem frame_kernel : Cert.quiescent_Kernel (hKernel := Cert.Kernel.Gen.facts) := fun m ρ _ =>
  frame_any (F := Bits) m ρ

/-- The kernel's frame over the extended reals. -/
theorem frame_kernelIdeal : Cert.quiescent_KernelIdeal (hKernelIdeal := Cert.KernelIdeal.Gen.facts) := fun m ρ _ => frame_any (F := Ideal) m ρ

/-- The reference's frame. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Ring

end
-- ==== Proof.Product.lean ====
/-
# 01_k — the product of a device

Over the extended reals: what a device contributes to a sum of the ring, read from the whole arrays.
-/
module

public import proofs.«01_k».proof.Proof.Frames
public import Idealize.ShloMosaic.Lib.MatmulPlain
public import Idealize.ShloMosaic.Lib.Layout
public import Idealize.ShloMosaic.Lib.ValueIdx
public import Idealize.ShloMosaic.Lib.Pipeline.Value
public import Idealize.ShloMosaic.PureOps.Ideal.Laws

@[expose] public section

noncomputable section

namespace Cert.Ring

open Cert.KernelIdeal Cert.KernelIdeal.Gen
open Idealize.ShloMosaic Idealize.ShloMosaic.TcCoe Idealize.ShloMosaic.ValueIdx Idealize.SL.Sem
open scoped BigOperators

section Staged

variable {F : FTy → Type} [FloatOps F] (m : (ℓ : Loc nD τ sig) → Buf (Elt F) ℓ) (ρ : Dev nD → PrngReg)

/-- The staged block of `x` is the device's argument, -/
theorem xstg_eq (c : Dev nD) : xstg m ρ c = m ((c : Thread nD τ).loc main_arg0) :=
  Memref.read_access_unit_zero (Elt F) main_arg0 (funext fun a => by fin_cases a <;> decide) (fun a => by fin_cases a <;> decide) _
/-- and of `w` likewise. -/
theorem wstg_eq (c : Dev nD) : wstg m ρ c = m ((c : Thread nD τ).loc main_arg1) :=
  Memref.read_access_unit_zero (Elt F) main_arg1 (funext fun a => by fin_cases a <;> decide) (fun a => by fin_cases a <;> decide) _

/-- The block of the rows a direction multiplies for the sum `r`. -/
def rowBlk : Dir → Dev nD → ℕ → Fin 16
  | .cw, c, r => ⟨(c.val + 31 - r % 16) % 16, Nat.mod_lt _ (by decide)⟩
  | .ccw, c, r => ⟨(c.val + r % 16 + 1) % 16, Nat.mod_lt _ (by decide)⟩

/-- Row `i` of block `b` of sixteen. -/
def rowOf (b : Fin 16) (i : Fin 256) : Fin 4096 := ⟨256 * b.val + i.val, by omega⟩
/-- Column `j` of a direction's half. -/
def colOf : Dir → Fin 4096 → Fin 8192
  | .cw, j => ⟨j.val, by omega⟩
  | .ccw, j => ⟨4096 + j.val, by omega⟩

theorem xOff_eq (D : Dir) (c : Dev nD) (r : ℕ) :
    xOff D c (BitVec.ofNat 32 (rn r).val) = ![256 * (rowBlk D c r).val, 0] := by
  cases D
  · exact k0_off1_eq c (rn r)
  · exact k0_off2_eq c (rn r)

/-- The rows that a direction multiplies, read. -/
theorem xAt_apply (D : Dir) (c : Dev nD) (r : ℕ) (f : (cc0_stg0_0 : Ref sig .tc).ty.Contents (Elt F)) (i k : Fin 256) :
    xAt D c (rn r) f (ix2 i k) = f (ix2 (rowOf (rowBlk D c r) i) k : S4096x256.Idx) := by
  have ho := xOff_eq D c r
  show f _ = f _
  refine congrArg f (funext fun a => Fin.ext ?_)
  match a with
  | ⟨0, _⟩ =>
    show xOff D c (BitVec.ofNat 32 (rn r).val) 0 + 1 * i.val = 256 * (rowBlk D c r).val + i.val
    rw [ho, Nat.one_mul]; rfl
  | ⟨1, _⟩ =>
    show xOff D c (BitVec.ofNat 32 (rn r).val) 1 + 1 * k.val = k.val
    rw [ho, Nat.one_mul]; exact Nat.zero_add _

/-- The half of `w` that a direction multiplies, read. -/
theorem wAt_apply (D : Dir) (f : (cc0_stg1_0 : Ref sig .tc).ty.Contents (Elt F)) (k : Fin 256) (j : Fin 4096) :
    wAt D f (ix2 k j) = f (ix2 k (colOf D j) : S256x8192.Idx) := by
  cases D
  all_goals
    show f _ = f _
    refine congrArg f (funext fun a => Fin.ext ?_)
    match a with
    | ⟨0, _⟩ => exact (Nat.zero_add _).trans (Nat.one_mul _)
    | ⟨1, _⟩ => first | exact (Nat.zero_add _).trans (Nat.one_mul _) | exact congrArg (4096 + ·) (Nat.one_mul _)

end Staged

/-! ## Over the extended reals -/

/-- The printed product of a block of `x` and a half of `w`, read. -/
theorem pay3_apply (a : Vec Ideal S256x256 .f32) (b : Vec Ideal S256x4096 .f32) (i : Fin 256) (j : Fin 4096) :
    k0_pay3 (F := Ideal) a b (ix2 i j) = ∑ k : Fin 256, a (ix2 i k) * b (ix2 k j) := by
  have h : k0_pay3 (F := Ideal) a b = FloatOps.matmul (φ₁ := .f32) (φ₂ := .f32) (DotDims.plain 256 256 4096) (some .fp32) a b (constant S256x4096 .f32 0x00000000#32) := by
    unfold k0_pay3
    rw [shapeCast_self, shapeCast_self]
    rfl
  rw [h]
  refine (Ideal.matmul_plain_apply (M := 256) (K := 256) (N := 4096) (φ₁ := .f32) (φ₂ := .f32) _ a b _ i j).trans ?_
  rw [show (constant S256x4096 .f32 0x00000000#32 : FVec Ideal S256x4096 .f32) (ix2 i j) = 0 from Ideal.ofBits_zero_f32, zero_add]

section Whole

variable (m : (ℓ : Loc nD τ sig) → Buf (Elt Ideal) ℓ) (ρ : Dev nD → PrngReg)
variable (X : (⟨2, ![4096, 4096]⟩ : Shape).Idx → EReal) (W : (⟨2, ![4096, 8192]⟩ : Shape).Idx → EReal)

/-- Each device holds its block of the columns of `X` and of the rows of `W`. -/
def Holds : Prop := ∀ c : Dev nD,
  m ((c : Thread nD τ).loc main_arg0) = Layout.block ⟨2, ![4096, 256]⟩ ⟨2, ![4096, 4096]⟩ 1 16 c X
  ∧ m ((c : Thread nD τ).loc main_arg1) = Layout.block ⟨2, ![256, 8192]⟩ ⟨2, ![4096, 8192]⟩ 0 16 c W

/-- What device `e` adds to the entry in row `i` and column `j` of the product. -/
def part (e : Fin 16) (i : Fin 4096) (j : Fin 8192) : EReal :=
  ∑ k : Fin 256, X (ix2 i (rowOf e k)) * W (ix2 (rowOf e k) j)

variable {m X W}

theorem prod_apply (h : Holds m X W) (D : Dir) (c : Dev nD) (r : ℕ) (i : Fin 256) (j : Fin 4096) :
    prod m ρ D c r (ix2 i j) = part X W c (rowOf (rowBlk D c r) i) (colOf D j) := by
  unfold prod part
  rw [pay3_apply]
  refine Finset.sum_congr rfl fun k _ => ?_
  rw [xAt_apply, wAt_apply, xstg_eq, wstg_eq, (h c).1, (h c).2]
  congr 1
  · refine congrArg X (funext fun a => Fin.ext ?_)
    match a with
    | ⟨0, _⟩ => rfl
    | ⟨1, _⟩ => exact congrArg (· + k.val) (Nat.mul_comm _ _)
  · refine congrArg W (funext fun a => Fin.ext ?_)
    match a with
    | ⟨0, _⟩ => exact congrArg (· + k.val) (Nat.mul_comm _ _)
    | ⟨1, _⟩ => rfl

/-! ## The sum along the ring -/

/-- The device `t` places back along a direction's ring. -/
def along (D : Dir) (t : ℕ) (c : Dev nD) : Dev nD := match D with
  | .cw => back c t
  | .ccw => fwd c t

theorem along_zero (D : Dir) (c : Dev nD) : along D 0 c = c := by cases D; exacts [back_zero c, fwd_zero c]
theorem along_frm (D : Dir) (t : ℕ) (c : Dev nD) : along D t (frm D c) = along D (t + 1) c := by
  have := dev_lt c
  cases D
  · exact back_prv c t
  · apply Fin.ext
    show ((c.val + 1) % 16 + t) % 16 = (c.val + (t + 1)) % 16
    omega

/-- The sum handed on keeps its rows. -/
theorem rowBlk_frm (D : Dir) (c : Dev nD) (s : ℕ) (hs : s < 15) : rowBlk D (frm D c) s = rowBlk D c (s + 1) := by
  have := dev_lt c
  cases D <;> apply Fin.ext
  · show ((c.val + 15) % 16 + 31 - s % 16) % 16 = (c.val + 31 - (s + 1) % 16) % 16
    omega
  · show ((c.val + 1) % 16 + s % 16 + 1) % 16 = (c.val + (s + 1) % 16 + 1) % 16
    omega
/-- The rows of the last sum are the device's own. -/
theorem rowBlk_last (D : Dir) (c : Dev nD) : rowBlk D c 15 = c := by
  have := dev_lt c
  cases D <;> apply Fin.ext
  · show (c.val + 31 - 15 % 16) % 16 = c.val
    omega
  · show (c.val + 15 % 16 + 1) % 16 = c.val
    omega

/-- The sum a device holds before step `s`: the parts of the devices it came past. -/
theorem sum_apply (h : Holds m X W) (D : Dir) (s : ℕ) (hs : s < 16) (c : Dev nD) (i : Fin 256) (j : Fin 4096) :
    sum m ρ D c s (ix2 i j)
      = ∑ t ∈ Finset.range (s + 1), part X W (along D t c) (rowOf (rowBlk D c s) i) (colOf D j) := by
  induction s generalizing c with
  | zero => rw [Finset.sum_range_one, along_zero]; exact prod_apply ρ h D c 0 i j
  | succ s ih =>
    show sum m ρ D (frm D c) s (ix2 i j) + prod m ρ D c (s + 1) (ix2 i j) = _
    rw [ih (by omega), prod_apply ρ h, Finset.sum_range_succ' _ (s + 1), along_zero, rowBlk_frm D c s (by omega)]
    simp only [along_frm]

theorem along_bijective (D : Dir) (c : Dev nD) : Function.Bijective fun t : Fin 16 => along D t.val c := by
  refine Function.Injective.bijective_of_finite fun t t' h => Fin.ext ?_
  have := dev_lt c
  have hv := congrArg Fin.val h
  cases D
  · have hv : (c.val + (16 - t.val % 16)) % 16 = (c.val + (16 - t'.val % 16)) % 16 := hv
    omega
  · have hv : (c.val + t.val) % 16 = (c.val + t'.val) % 16 := hv
    omega

/-- Sixteen blocks of 256 terms are all the terms. -/
theorem sum_rows (f : Fin 4096 → EReal) : ∑ e : Fin 16, ∑ k : Fin 256, f (rowOf e k) = ∑ k : Fin 4096, f k := by
  rw [← Fintype.sum_prod_type' (fun e k => f (rowOf e k))]
  refine Fintype.sum_equiv (finProdFinEquiv : Fin 16 × Fin 256 ≃ Fin 4096) _ _ fun p => congrArg f (Fin.ext ?_)
  show 256 * p.1.val + p.2.val = p.2.val + 256 * p.1.val
  omega

/-- The entry in row `i` and column `j` of the whole product. -/
def whole (X : (⟨2, ![4096, 4096]⟩ : Shape).Idx → EReal) (W : (⟨2, ![4096, 8192]⟩ : Shape).Idx → EReal)
    (i : Fin 4096) (j : Fin 8192) : EReal :=
  ∑ k : Fin 4096, X (ix2 i k) * W (ix2 k j)

/-- The last sum of a direction is its half of the device's rows of the whole product. -/
theorem sum_last (h : Holds m X W) (D : Dir) (c : Dev nD) (i : Fin 256) (j : Fin 4096) :
    sum m ρ D c 15 (ix2 i j) = whole X W (rowOf c i) (colOf D j) := by
  rw [sum_apply ρ h D 15 (by omega), rowBlk_last, Finset.sum_range,
    (along_bijective D c).sum_comp (fun e => part X W e (rowOf c i) (colOf D j))]
  exact sum_rows fun k => X (ix2 (rowOf c i) k) * W (ix2 k (colOf D j))

/-- A device's block of the product, read. -/
theorem yAt_apply (h : Holds m X W) (c : Dev nD) (i : Fin 256) (j : Fin 8192) :
    yAt m ρ c (ix2 i j : S256x8192.Idx) = whole X W (rowOf c i) j := by
  unfold yAt beside
  have hj := j.isLt
  have e {a : Fin 4096} : (Fin.cons i (Fin.cons a fun a => a.elim0) : S256x4096.Idx) = ix2 i a := by
    funext b
    match b with
    | ⟨0, _⟩ => rfl
    | ⟨1, _⟩ => rfl
  by_cases hl : j.val < 4096
  · refine (dif_pos hl).trans ((congrArg _ e).trans ((sum_last ρ h .cw c i ⟨j.val, hl⟩).trans ?_))
    rfl
  · refine (dif_neg hl).trans ((congrArg _ e).trans ((sum_last ρ h .ccw c i ⟨j.val - 4096, by omega⟩).trans ?_))
    refine congrArg (whole X W _) (Fin.ext ?_)
    show 4096 + (j.val - 4096) = j.val
    omega

end Whole

end Cert.Ring

end
-- ==== Proof.Maximum.lean ====
/-
# 01_k — the largest absolute value

Over the extended reals: the maximum of the devices' maxima is the maximum of the whole product, which the reference takes
in one reduction. Both are told by what bounds them.
-/
module

public import proofs.«01_k».proof.Proof.Product

@[expose] public section

set_option maxRecDepth 16384

noncomputable section

namespace Cert.Ring

open Cert.KernelIdeal Cert.KernelIdeal.Gen
open Idealize.ShloMosaic Idealize.ShloMosaic.TcCoe Idealize.ShloMosaic.ValueIdx Idealize.SL.Sem

/-- The absolute value. -/
abbrev mag (x : EReal) : EReal := FloatOps.absf (F := Ideal) (φ := .f32) x

theorem negInf_eq : Ideal.ofBits .f32 0xFF800000#32 = (⊥ : EReal) := by simp [Ideal.ofBits, Ideal.ieee]

/-- A bound of a maximum over some axes bounds every element that goes into it. -/
theorem multiReduction_le {s t : Shape} {axes : List (Fin s.rank)} [Subsingleton t.Idx] (v : FVec Ideal s .f32) (h : s.Reduces axes t)
    (hφ : FKind.Formats .f32) (hacc : (0xFF800000#32 : BitVec 32) = FKind.maximumf.neutral .f32 hφ) (j : t.Idx) (b : EReal) :
    multiReduction .maximumf axes t v 0xFF800000#32 h hφ hacc j ≤ b ↔ ∀ i, v i ≤ b := by
  rw [multiReduction_maximumf_eq_fold]
  refine (Finset.fold_max_le (s := Finset.univ.filter fun i => h.drop i = j) (f := v) (b := Ideal.ofBits .f32 0xFF800000#32) b).trans ?_
  rw [negInf_eq]
  exact ⟨fun H i => H.2 i (Finset.mem_filter.2 ⟨Finset.mem_univ _, Subsingleton.elim _ _⟩), fun H => ⟨bot_le, fun i _ => H i⟩⟩

/-- The same of the host's reduction. -/
theorem hostReduce_le {s t u : Shape} {axes : List (Fin s.rank)} [Subsingleton t.Idx] (v : FVec Ideal s .f32) (h : s.ReducesTo axes t)
    (hu : 0 < u.numel) (j : t.Idx) (b : EReal) :
    Host.reduce FloatOps.maximumf v (constant u .f32 0xFF800000#32) h hu j ≤ b ↔ ∀ i, v i ≤ b := by
  rw [Host.reduce_eq_fold]
  refine (Finset.fold_max_le (s := Finset.univ.filter fun i => h.drop i = j) (f := v) (b := Ideal.ofBits .f32 0xFF800000#32) b).trans ?_
  rw [negInf_eq]
  exact ⟨fun H i => H.2 i (Finset.mem_filter.2 ⟨Finset.mem_univ _, Subsingleton.elim _ _⟩), fun H => ⟨bot_le, fun i _ => H i⟩⟩

/-- What holds of every element of an array holds of every element of its reshape. -/
theorem forall_shapeCast {s t : Shape} {α : Type} (x : s.Idx → α) (h : s.ShapeCasts t) (p : α → Prop) :
    (∀ i, p (shapeCast t x h i)) ↔ ∀ i, p (x i) :=
  (Shape.reshapeEquiv h).forall_congr_right (q := fun i => p (x i))

instance : Subsingleton S1.Idx := ⟨fun i j => funext fun a => by
  match a with
  | ⟨0, _⟩ => exact Subsingleton.elim (α := Fin 1) _ _⟩
instance : Subsingleton S_.Idx := ⟨fun i j => funext fun a => a.elim0⟩

/-- The printed maximum of an array: cast, reduced to one cell, that cell read. -/
def maxOf {s t : Shape} {axes : List (Fin t.rank)} (ht : s.ShapeCasts t) (h : t.Reduces axes S1) (v : FVec Ideal s .f32) : EReal :=
  extractAt (s := S1x1x1) ![0, 0, 0] (shapeCast S1x1x1 (multiReduction .maximumf axes S1
    (shapeCast t v ht : FVec Ideal t .f32) 0xFF800000#32 h (.inl rfl) rfl) shapeCasts_S1_S1x1x1) inpos_S1x1x1_p0_0_0

theorem maxOf_le {s t : Shape} {axes : List (Fin t.rank)} (ht : s.ShapeCasts t) (h : t.Reduces axes S1) (v : FVec Ideal s .f32) (b : EReal) :
    maxOf ht h v ≤ b ↔ ∀ i, v i ≤ b := by
  refine (multiReduction_le (shapeCast t v ht) h (.inl rfl) rfl _ b).trans ?_
  exact forall_shapeCast v ht (· ≤ b)

/-- The printed maximum of all the rows of maxima. -/
def gmaxOf (a : Vec Ideal S16x128 .f32) : EReal := maxOf shapeCasts_S16x128_S1x16x128 reduces_S1x16x128_S1 a

theorem pay71_apply (v : Vec Ideal S256x8192 .f32) (l : S1x128.Idx) :
    k0_pay71 (F := Ideal) v l = maxOf shapeCasts_S256x8192_S1x256x8192 reduces_S1x256x8192_S1 (absf v) := by
  unfold k0_pay71 maxOf
  rw [shapeCast_self, shapeCast_self, broadcast]

/-- A bound of a device's printed maximum bounds its block. -/
theorem pay71_le (v : Vec Ideal S256x8192 .f32) (l : S1x128.Idx) (b : EReal) :
    k0_pay71 (F := Ideal) v l ≤ b ↔ ∀ i, mag (v i) ≤ b := by
  rw [pay71_apply]
  exact maxOf_le _ _ _ b

/-- An entry quantised to the scale `s` and back. -/
def quant (s y : EReal) : EReal :=
  FloatOps.mulf (F := Ideal) (φ := .f32)
    (FloatOps.minimumf (F := Ideal) (φ := .f32) (Ideal.ofBits .f32 0x42FE0000#32)
      (FloatOps.maximumf (F := Ideal) (φ := .f32) (Ideal.ofBits .f32 0xC2FE0000#32)
        (Ideal.liftRound Ideal.roundHalfEven (Ideal.div y s)))) s
/-- The scale of a largest absolute value. -/
def scaleOf (g : EReal) : EReal := Ideal.div g (Ideal.ofBits .f32 0x42FE0000#32)

/-- The printed quantiser, read. -/
theorem pay72_apply (a : Vec Ideal S16x128 .f32) (v : Vec Ideal S256x8192 .f32) (i : S256x8192.Idx) :
    k0_pay72 (F := Ideal) a v i = quant (scaleOf (gmaxOf a)) (v i) := by
  unfold k0_pay72
  rw [shapeCast_self]
  rfl

section Whole

variable {m : (ℓ : Loc nD τ sig) → Buf (Elt Ideal) ℓ} (ρ : Dev nD → PrngReg)
variable {X : (⟨2, ![4096, 4096]⟩ : Shape).Idx → EReal} {W : (⟨2, ![4096, 8192]⟩ : Shape).Idx → EReal}

/-- A bound of the maximum that every device computes bounds the whole product. -/
theorem gmax_le (h : Holds m X W) (b : EReal) :
    gmaxOf (amaxAll m ρ) ≤ b ↔ ∀ (i : Fin 4096) (j : Fin 8192), mag (whole X W i j) ≤ b := by
  refine (maxOf_le _ _ _ b).trans ?_
  constructor
  · intro H i j
    have hi := i.isLt
    have hd : i.val / 256 < 16 := by omega
    obtain ⟨c, hcv⟩ : ∃ c : Fin 16, c = ⟨i.val / 256, hd⟩ := ⟨_, rfl⟩
    have hk : maxv m ρ c _ ≤ b := H (ix2 c (0 : Fin 128) : S16x128.Idx)
    have hc := (pay71_le (yAt m ρ c) _ b).1 hk (ix2 ⟨i.val % 256, Nat.mod_lt _ (by decide)⟩ j : S256x8192.Idx)
    rw [yAt_apply ρ h] at hc
    have hr : rowOf c ⟨i.val % 256, Nat.mod_lt _ (by decide)⟩ = i := by
      subst hcv
      exact Fin.ext (Nat.div_add_mod i.val 256)
    rwa [hr] at hc
  · intro H k
    suffices hs : ∀ c l, maxv m ρ c l ≤ b from hs _ _
    intro c l
    refine (pay71_le (yAt m ρ c) l b).2 fun i => ?_
    obtain ⟨p, q, rfl⟩ : ∃ (p : Fin 256) (q : Fin 8192), i = (ix2 p q : S256x8192.Idx) := ⟨i 0, i 1, eq_ix2 i⟩
    rw [yAt_apply ρ h]
    exact H _ _

end Whole

end Cert.Ring

end
-- ==== Proof.Value.lean ====
/-
# 01_k — the result

Over the extended reals: every device's result is its block of the reference's.
-/
module

public import proofs.«01_k».proof.Proof.Maximum
public import Idealize.ShloMosaic.Lib.StackMember
public import Idealize.ShloMosaic.Lib.IdealHost

@[expose] public section

set_option maxRecDepth 16384

noncomputable section

namespace Cert.Ring

open Idealize.ShloMosaic Idealize.ShloMosaic.TcCoe Idealize.ShloMosaic.ValueIdx Idealize.SL.Sem

section Reference

open Cert.ReferenceIdeal Cert.ReferenceIdeal.Gen

variable (X : (⟨2, ![4096, 4096]⟩ : Shape).Idx → EReal) (W : (⟨2, ![4096, 8192]⟩ : Shape).Idx → EReal)

/-- The reference's product, -/
def refY : FVec Ideal S4096x8192 .f32 :=
  Host.dotGeneral (F := Ideal) (φ₁ := .f32) (φ₂ := .f32) dot_S4096x4096_S4096x8192_S4096x8192_1_0_0_1_n_n none X W
/-- its largest absolute value, -/
def refMax (Y : FVec Ideal S4096x8192 .f32) : FVec Ideal S_ .f32 :=
  Host.reduce FloatOps.maximumf (Host.absf Y) (constant S_ .f32 0xFF800000#32) reducesTo_S4096x8192_S_d0_1 h_S_
/-- the scale that makes, -/
def refScale (g : FVec Ideal S_ .f32) : FVec Ideal S_ .f32 := Host.divf g (constant S_ .f32 0x42FE0000#32)
/-- and an array quantised to a scale. -/
def refQuant (Y : FVec Ideal S4096x8192 .f32) (s : FVec Ideal S_ .f32) : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf Y (broadcastInDim S4096x8192 ![] bcast_S_S4096x8192 s)))))
    (broadcastInDim S4096x8192 ![] bcast_S_S4096x8192 s)

theorem refY_apply (i : Fin 4096) (j : Fin 8192) : refY X W (ix2 i j : S4096x8192.Idx) = whole X W i j :=
  StackMember.dotGeneral_plain_apply (m := 4096) (k := 4096) (n := 8192) (φ₁ := .f32) (φ₂ := .f32) none X W i j

theorem refMax_le (Y : FVec Ideal S4096x8192 .f32) (b : EReal) : refMax Y ix0 ≤ b ↔ ∀ i, mag (Y i) ≤ b :=
  hostReduce_le (Host.absf Y) _ _ _ b

theorem refQuant_apply (Y : FVec Ideal S4096x8192 .f32) (g : FVec Ideal S_ .f32) (i : S4096x8192.Idx) :
    refQuant Y (refScale g) i = quant (scaleOf (g ix0)) (Y i) := by
  have hb : ∀ s : FVec Ideal S_ .f32, broadcastInDim S4096x8192 ![] bcast_S_S4096x8192 s i = s ix0 := fun s => broadcastInDim_scalar_apply _ s i
  show FloatOps.mulf (F := Ideal) (φ := .f32) (FloatOps.minimumf (F := Ideal) (φ := .f32) (broadcastInDim S4096x8192 ![] bcast_S_S4096x8192 (constant (F := Ideal) S_ .f32 0x42FE0000#32) i)
    (FloatOps.maximumf (F := Ideal) (φ := .f32) (broadcastInDim S4096x8192 ![] bcast_S_S4096x8192 (constant (F := Ideal) S_ .f32 0xC2FE0000#32) i)
      (Ideal.liftRound Ideal.roundHalfEven (Ideal.div (Y i) (broadcastInDim S4096x8192 ![] bcast_S_S4096x8192 (refScale g) i)))))
    (broadcastInDim S4096x8192 ![] bcast_S_S4096x8192 (refScale g) i) = _
  rw [hb, hb, hb]
  rfl

/-- What the reference returns. -/
def refOut : FVec Ideal S4096x8192 .f32 := refQuant (refY X W) (refScale (refMax (refY X W)))

theorem refOut_apply (i : Fin 4096) (j : Fin 8192) :
    refOut X W (ix2 i j : S4096x8192.Idx) = quant (scaleOf (refMax (refY X W) ix0)) (whole X W i j) := by
  unfold refOut
  rw [refQuant_apply, refY_apply]

end Reference

section Device

open Cert.KernelIdeal Cert.KernelIdeal.Gen

variable {m : (ℓ : Loc nD τ sig) → Buf (Elt Ideal) ℓ} (ρ : Dev nD → PrngReg)
variable {X : (⟨2, ![4096, 4096]⟩ : Shape).Idx → EReal} {W : (⟨2, ![4096, 8192]⟩ : Shape).Idx → EReal}

/-- The devices' maximum is the reference's. -/
theorem gmax_eq (h : Holds m X W) : gmaxOf (amaxAll m ρ) = refMax (refY X W) ix0 :=
  eq_of_forall_ge_iff fun b => (gmax_le ρ h b).trans <| by
    refine Iff.trans ?_ (refMax_le _ b).symm
    constructor
    · intro H k
      obtain ⟨p, q, rfl⟩ : ∃ (p : Fin 4096) (q : Fin 8192), k = ix2 p q := ⟨k 0, k 1, eq_ix2 k⟩
      rw [refY_apply]
      exact H p q
    · intro H p q
      have := H (ix2 p q)
      rwa [refY_apply] at this

/-- What a device returns is its block of the reference's result. -/
theorem outAt_eq (h : Holds m X W) (c : Dev nD) :
    outAt m ρ c = Layout.block ⟨2, ![256, 8192]⟩ ⟨2, ![4096, 8192]⟩ 0 16 c (refOut X W) := by
  funext k
  obtain ⟨p, q, rfl⟩ : ∃ (p : Fin 256) (q : Fin 8192), k = (ix2 p q : S256x8192.Idx) := ⟨k 0, k 1, eq_ix2 k⟩
  refine (pay72_apply (amaxAll m ρ) (yAt m ρ c) (ix2 p q)).trans ?_
  rw [yAt_apply ρ h, gmax_eq ρ h, ← refOut_apply]
  show refOut X W _ = refOut X W _
  refine congrArg (refOut X W) (funext fun a => Fin.ext ?_)
  match a with
  | ⟨0, _⟩ =>
    refine Eq.trans ?_ ((Layout.Tiles.idx_val _ _ _ _).trans (if_pos rfl)).symm
    show 256 * c.val + p.val = c.val * 256 + p.val
    omega
  | ⟨1, _⟩ =>
    refine Eq.trans ?_ (Layout.Tiles.idx_val _ _ _ _).symm
    rfl

/-- The result array after the run. -/
theorem finalA_out (c : Dev nD) : finalA m ρ c (2 : Fin 3) = outAt m ρ c := by
  have hread : (win0_2.blk (0 : Fin 1)).view.read (Elt Ideal) (finalA m ρ c (2 : Fin 3)) = outAt m ρ c := by
    have hN := (dats m ρ 0 c).arrAt_succ (2 : Fin 3) (0 : Fin 1)
    rw [if_pos (by decide : (cfg0.win (2 : Fin 3)).flush (0 : Fin 1) = true)] at hN
    refine (congrArg ((win0_2.blk (0 : Fin 1)).view.read (Elt Ideal)) hN).trans ?_
    exact View.read_write_univ _ _
  refine Eq.trans ?_ hread
  exact (Memref.read_access_unit_zero (Elt Ideal) main_v1 (funext fun a => by fin_cases a <;> decide) (fun a => by fin_cases a <;> decide) _).symm

end Device

/-- The kernel over the extended reals computes what the reference does. -/
theorem algebraic : Cert.algebraic_KernelIdeal_ReferenceIdeal (hKernelIdeal := Cert.KernelIdeal.Gen.facts) (hReferenceIdeal := Cert.ReferenceIdeal.Gen.facts) :=
  fun m ρ m' ρ' _ h =>
    ⟨refOut (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run Cert.KernelIdeal.defs _ _).mono
        (fun _ hr c => ⟨((hr.1 c (2 : Fin 3)).trans (finalA_out ρ c)).trans (outAt_eq ρ h c),
          (hr.1 c (0 : Fin 3)).trans (finalA_x m ρ c), (hr.1 c (1 : Fin 3)).trans (finalA_w m ρ c)⟩)
        (run_main (F := Ideal) m ρ),
      (θ_run Cert.ReferenceIdeal.defs _ _).mono (fun _ hr => hr 0) (Cert.ReferenceIdeal.Value.run (F := Ideal) m' ρ')⟩

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    Cert.Ring.frame_kernel, Cert.Ring.frame_kernelIdeal, Cert.Ring.frame_reference, trivial, Cert.Ring.algebraic⟩

end Cert.Proof

end
